-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 2048]⟩ ⟨2, ![16384, 4096]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048 : Shape := ⟨1, ![2048]⟩
abbrev S1024x2048 : Shape := ⟨2, ![1024, 2048]⟩
abbrev S8192x1 : Shape := ⟨2, ![8192, 1]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048, .f32⟩
  | .local _ .vmem, ⟨3, _⟩ => ⟨S1024x2048, .f32⟩
  | .local _ .vmem, ⟨4, _⟩ => ⟨S1024x2048, .f32⟩
  | .local _ .vmem, ⟨5, _⟩ => ⟨S8192x1, .f32⟩
  | .local _ .vmem, ⟨6, _⟩ => ⟨S8192x1, .f32⟩
  | .local _ .vmem, ⟨7, _⟩ => ⟨S8192x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1024_i32 : BitVec 32 := 1024#32
  let v14 : BitVec 32 := Scalar.muli arg0 c1024_i32
  let v15 : Index := Scalar.indexCast v14
  let c0_4 : Index := 0#32
  ![v15.toNat, 0]
def k0_cond2 (i : grid0.Coords) : BitVec 1 :=
  let arg0 : BitVec 32 := BitVec.ofNat 32 (i 0).val
  let c7_i32 : BitVec 32 := 7#32
  let v3 : BitVec 1 := Scalar.cmpi .eq arg0 c7_i32
  let v4 : BitVec 32 := Scalar.extui v3
  let c0_i32_0 : BitVec 32 := 0#32
  let v5 : BitVec 1 := Scalar.cmpi .ne v4 c0_i32_0
  v5

def k0_dev1 (d9 : Dev nD) : Nat :=
  let c0_i32_8 : BitVec 32 := 0#32
  let v9 : BitVec 32 := Dev.word d9
  let c2_i32_3 : BitVec 32 := 2#32
  let v10 : BitVec 32 := Scalar.divsi v9 c2_i32_3
  let c2_i32 : BitVec 32 := 2#32
  let v11 : BitVec 32 := Scalar.remsi v10 c2_i32
  let c2_i32_7 : BitVec 32 := 2#32
  let v17 : BitVec 32 := Scalar.muli v11 c2_i32_7
  let v18 : BitVec 32 := Scalar.addi c0_i32_8 v17
  let c1_i32_5 : BitVec 32 := 1#32
  let v12 : BitVec 32 := Dev.word d9
  let c1_i32 : BitVec 32 := 1#32
  let v13 : BitVec 32 := Scalar.divsi v12 c1_i32
  let c2_i32_4 : BitVec 32 := 2#32
  let v14 : BitVec 32 := Scalar.remsi v13 c2_i32_4
  let v15 : BitVec 32 := Scalar.subi c1_i32_5 v14
  let c1_i32_9 : BitVec 32 := 1#32
  let v19 : BitVec 32 := Scalar.muli v15 c1_i32_9
  let v20 : BitVec 32 := Scalar.addi v18 v19
  v20.toNat
def k0_dev2 (d9 : Dev nD) : Nat :=
  let c0_i32_12 : BitVec 32 := 0#32
  let v9 : BitVec 32 := Dev.word d9
  let c2_i32_3 : BitVec 32 := 2#32
  let v10 : BitVec 32 := Scalar.divsi v9 c2_i32_3
  let c2_i32 : BitVec 32 := 2#32
  let v11 : BitVec 32 := Scalar.remsi v10 c2_i32
  let c2_i32_11 : BitVec 32 := 2#32
  let v21 : BitVec 32 := Scalar.muli v11 c2_i32_11
  let v22 : BitVec 32 := Scalar.addi c0_i32_12 v21
  let c1_i32_5 : BitVec 32 := 1#32
  let v12 : BitVec 32 := Dev.word d9
  let c1_i32 : BitVec 32 := 1#32
  let v13 : BitVec 32 := Scalar.divsi v12 c1_i32
  let c2_i32_4 : BitVec 32 := 2#32
  let v14 : BitVec 32 := Scalar.remsi v13 c2_i32_4
  let v15 : BitVec 32 := Scalar.subi c1_i32_5 v14
  let c1_i32_13 : BitVec 32 := 1#32
  let v23 : BitVec 32 := Scalar.muli v15 c1_i32_13
  let v24 : BitVec 32 := Scalar.addi v22 v23
  v24.toNat
def k0_cond3 (i : grid0.Coords) : BitVec 1 :=
  let arg0 : BitVec 32 := BitVec.ofNat 32 (i 0).val
  let c8_i32_1 : BitVec 32 := 8#32
  let v6 : BitVec 1 := Scalar.cmpi .sge arg0 c8_i32_1
  let v7 : BitVec 32 := Scalar.extui v6
  let c0_i32_2 : BitVec 32 := 0#32
  let v8 : BitVec 1 := Scalar.cmpi .ne v7 c0_i32_2
  v8

def k0_off2 (i : grid0.Coords) : Fin 2 → Nat :=
  let arg0 : BitVec 32 := BitVec.ofNat 32 (i 0).val
  let c8_i32_3 : BitVec 32 := 8#32
  let v9 : BitVec 32 := Scalar.subi arg0 c8_i32_3
  let c1024_i32 : BitVec 32 := 1024#32
  let v10 : BitVec 32 := Scalar.muli v9 c1024_i32
  let v11 : Index := Scalar.indexCast v10
  let c0 : Index := 0#32
  ![v11.toNat, 0]
def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let v2 : BitVec 32 := Scalar.select v0 arg0 v1
  let c0_i32 : BitVec 32 := 0#32
  let c0_i32_1 : BitVec 32 := 0#32
  ![v2.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdeal.Protocol.lean ====
/-
The exchange between the two devices of one mesh row, as a protocol on semaphore cells, and the contents the run
computes.

Device `c` sits at row `c / 2` and column `c % 2` of the 2 × 2 mesh; its peer is the other device of its row. Over the
first eight grid points a device fills its accumulator with the row sums of squares of its own columns. At the
eighth it tells its peer that its landing buffer is free, waits for the same word from the peer, sends the accumulator
into the peer's landing buffer, waits until its own transfer has left and the peer's has arrived, and stores the
reciprocal root of the mean. The last eight points scale the staged rows.

Each device has three cells: `0` the barrier, `1` the send semaphore, `2` the receive semaphore. Each cell has one
round with one duty:
* barrier of `c`: one unit, paid by the peer, carrying the peer's landing buffer;
* send of `c`: the transfer's credit, carrying `c`'s accumulator back;
* receive of `c`: the transfer's credit, paid by the peer's transfer, carrying `c`'s landing buffer filled with the
  peer's accumulator.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: one copy of the rounds library for the staging cells, one for the exchange. -/
abbrev UU : Type := UR sig nD τ × UR sig nD τ

local notation "𝕄" => MT nD τ sig Unit (Elt F) ℕ UU ℕ

/-- The staging cells' copy inside the whole resource. -/
abbrev EP : Emb (UR sig nD τ) (MT nD τ sig Unit (Elt F) ℕ UU ℕ) := embL
/-- The exchange's copy. -/
abbrev EX : Emb (UR sig nD τ) (MT nD τ sig Unit (Elt F) ℕ UU ℕ) := embR

variable (m : (ℓ : Loc nD τ sig) → Buf (Elt F) ℓ)

/-! ## The peer -/

/-- The other device of `c`'s mesh row. -/
def peer (c : Dev nD) : Dev nD := ⟨(2 * (c.val / 2) + 1) - (c.val % 2), by have h : c.val < 4 := c.isLt; show _ < 4; omega⟩

/-- The peer's peer is the device itself. -/
theorem peer_peer (c : Dev nD) : peer (peer c) = c := by revert c; decide

/-- Taking peers permutes the devices. -/
def swap : Dev nD ≃ Dev nD := ⟨peer, peer, peer_peer, peer_peer⟩

/-- The signal's device word names the peer; -/
theorem dev1_peer (i : grid0.Coords) (h : k0_cond2 i = 1#1) (c : Dev nD) : (⟨k0_dev1 c, k0_dev1_lt i c h⟩ : Dev nD) = peer c :=
  Fin.ext (k0_dev1_eq c)
/-- and so does the transfer's. -/
theorem dev2_peer (i : grid0.Coords) (h : k0_cond2 i = 1#1) (c : Dev nD) : (⟨k0_dev2 c, k0_dev2_lt i c h⟩ : Dev nD) = peer c :=
  Fin.ext (k0_dev2_eq c)

/-! ## Buffers and cells -/

/-- The accumulator, -/
abbrev accM : Memref sig .tc .vmem S8192x1 .f32 := Memref.whole cc0_scratch0
/-- the buffer of reciprocal roots, -/
abbrev invM : Memref sig .tc .vmem S8192x1 .f32 := Memref.whole cc0_scratch1
/-- and the landing buffer. -/
abbrev comM : Memref sig .tc .vmem S8192x1 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

/-- The three semaphores of the exchange. -/
abbrev sems : Fin 3 → SemLoc sig := fun | 0 => .reg barS | 1 => .dma sendS.sem | 2 => .dma recvS.sem
/-- Device `c`'s cell on the `k`-th of them. -/
abbrev cell (c : Dev nD) (k : Fin 3) : GSem nD τ sig := ((c : Thread nD τ), sems k)
abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- Which of the three a semaphore is (any other counts as the barrier). -/
def kind (s : SemLoc sig) : Fin 3 := if s = .dma sendS.sem then 1 else if s = .dma recvS.sem then 2 else 0
theorem kind_sems : ∀ k : Fin 3, kind (sems k) = k := by decide

/-- The units one transfer of an accumulator pays. -/
@[irreducible] def N : ℕ := (comM : Memref sig .tc .vmem S8192x1 .f32).view.dmaCredit
/-- The landing buffer's credit, as the receive's wait counts it, -/
theorem com_credit : (comM : Memref sig .tc .vmem S8192x1 .f32).view.dmaCredit = N := by unfold N; rfl
/-- as the transfer pays it, -/
theorem com_amount : (comM : Memref sig .tc .vmem S8192x1 .f32).view.amount (.dma recvS.sem) = N := com_credit
/-- and the accumulator's, as the send's wait counts it. -/
theorem acc_credit : (accM : Memref sig .tc .vmem S8192x1 .f32).view.dmaCredit = N := by unfold N; rfl
theorem N_pos : 0 < N := com_credit ▸ View.dmaCredit_pos _ (by decide)

/-! ## Contents -/

/-- The rows of `x` staged on device `c` at point `t`. -/
def xblk (c : Dev nD) (t : Fin cfg0.N) : Vec F S1024x2048 .f32 := iblk m c 0 t
/-- The weights staged on device `c`. -/
def gblk (c : Dev nD) (t : Fin cfg0.N) : Vec F S2048 .f32 := iblk m c 1 t

/-- Row `r` of a column of `n` rows. -/
def row {n : ℕ} (r : Fin n) : (⟨2, ![n, 1]⟩ : Shape).Idx := fun a => match a with | ⟨0, _⟩ => r | ⟨1, _⟩ => ⟨0, Nat.one_pos⟩

/-- The grid point that sums the tile of row `r`. -/
def tileOf (r : ℕ) : Fin cfg0.N := ⟨r / 1024 % 16, by rw [show cfg0.N = 16 from N_0]; exact Nat.mod_lt _ (by decide)⟩

/-- The accumulator once all eight tiles are in: row `r` holds what point `r / 1024` computed for its row `r % 1024`. -/
def accFull (c : Dev nD) : Vec F S8192x1 .f32 :=
  fun p => k0_pay1 (xblk m c (tileOf (p 0).val)) (row ⟨(p 0).val % 1024, Nat.mod_lt _ (by decide)⟩)

/-- The reciprocal roots device `c` computes from its own accumulator and its peer's. -/
def invFull (c : Dev nD) : Vec F S8192x1 .f32 := k0_pay2 (k0_pay4 (accFull m c) (accFull m (peer c)))

/-- The reciprocal roots of the rows staged at point `t` of the second half. -/
def invTile (c : Dev nD) (t : Fin cfg0.N) : Vec F S1024x1 .f32 :=
  fun p => invFull m c (row ⟨(1024 * (t.val - 8) + (p 0).val) % 8192, Nat.mod_lt _ (by decide)⟩)

/-- The rows of the result computed at point `t` of the second half. -/
def outTile (c : Dev nD) (t : Fin cfg0.N) : Vec F S1024x2048 .f32 := k0_pay3 (invTile m c t) (xblk m c t) (gblk m c t)

/-- Device `c`'s accumulator, reciprocal roots and landing buffer, held whole. -/
def accAt (c : Dev nD) (f : Vec F S8192x1 .f32) : sProp 𝕄 :=
  (accM : Memref sig .tc .vmem S8192x1 .f32).view.loc (c : Thread nD τ) ↦[(accM : Memref sig .tc .vmem S8192x1 .f32).view.set]{fullShare} f
def invAt (c : Dev nD) (f : Vec F S8192x1 .f32) : sProp 𝕄 :=
  (invM : Memref sig .tc .vmem S8192x1 .f32).view.loc (c : Thread nD τ) ↦[(invM : Memref sig .tc .vmem S8192x1 .f32).view.set]{fullShare} f
def comAt (c : Dev nD) (f : Vec F S8192x1 .f32) : sProp 𝕄 :=
  (comM : Memref sig .tc .vmem S8192x1 .f32).view.loc (c : Thread nD τ) ↦[(comM : Memref sig .tc .vmem S8192x1 .f32).view.set]{fullShare} f

omit [FloatOps F] in
instance accAt_storable (c : Dev nD) (f : Vec F S8192x1 .f32) : BI.Storable (upEmb : UEmb _ 𝕄) (accAt c f) := by unfold accAt; infer_instance
omit [FloatOps F] in
instance comAt_storable (c : Dev nD) (f : Vec F S8192x1 .f32) : BI.Storable (upEmb : UEmb _ 𝕄) (comAt c f) := by unfold comAt; infer_instance

omit [FloatOps F] in
theorem accAt_eq (c : Dev nD) (f : Vec F S8192x1 .f32) : (accAt c f : sProp 𝕄) = (((c : Thread nD τ).loc cc0_scratch0) ↦{fullShare} f) := by
  unfold accAt; rw [View.set_whole]
omit [FloatOps F] in
theorem invAt_eq (c : Dev nD) (f : Vec F S8192x1 .f32) : (invAt c f : sProp 𝕄) = (((c : Thread nD τ).loc cc0_scratch1) ↦{fullShare} f) := by
  unfold invAt; rw [View.set_whole]
omit [FloatOps F] in
theorem comAt_eq (c : Dev nD) (f : Vec F S8192x1 .f32) : (comAt c f : sProp 𝕄) = (((c : Thread nD τ).loc cc0_scratch2) ↦{fullShare} f) := by
  unfold comAt; rw [View.set_whole]

/-! ## The schedule -/

/-- What the one duty of device `c`'s `k`-th cell carries. -/
def pay (c : Dev nD) : Fin 3 → sProp 𝕄
  | 0 => iprop((∃ f : Vec F S8192x1 .f32, comAt (peer c) f) ∗ reached EX (recvCell (peer c)) 0)
  | 1 => accAt c (accFull m c)
  | 2 => comAt c (accFull m (peer c))

/-- How many units it pays. -/
def amt : Fin 3 → ℕ | 0 => 1 | 1 => N | 2 => N
theorem amt_pos : ∀ k, 0 < amt k | 0 => Nat.one_pos | 1 => N_pos | 2 => N_pos

instance pay_storable (c : Dev nD) : ∀ k, BI.Storable (upEmb : UEmb _ 𝕄) (pay m c k)
  | 0 => by unfold pay; infer_instance
  | 1 => by unfold pay; infer_instance
  | 2 => by unfold pay; infer_instance

/-- The semaphore is one of the exchange's, on a core of the kernel. -/
abbrev InExchange (g : GSem nD τ sig) : Prop := g.1.2 = .tc ∧ sems (kind g.2) = g.2

/-- One round with one duty on every cell of the exchange. -/
def sched : Rounds.Schedule (GSem nD τ sig) Unit 𝕄 where
  duties g r := if r = 0 ∧ InExchange g then {()} else ∅
  unitless _ := False
  amount g _ _ := amt (kind g.2)
  payload g _ _ := pay m g.1.1 (kind g.2)
  amount_pos g _ _ _ := amt_pos _

instance sched_storable (g : GSem nD τ sig) (r : ℕ) (d : Unit) : BI.Storable (upEmb : UEmb _ 𝕄) ((sched m).payload g r d) := by
  show BI.Storable upEmb (pay m g.1.1 (kind g.2)); infer_instance

section Table
variable (c : Dev nD) (k : Fin 3)

theorem duties_cell : (sched m).duties (cell c k) 0 = {()} :=
  if_pos ⟨rfl, rfl, congrArg sems (kind_sems k)⟩
theorem duty_mem : () ∈ (sched m).duties (cell c k) 0 := by rw [duties_cell]; exact Finset.mem_singleton_self _
theorem duties_done (g : GSem nD τ sig) : ∀ r, 1 ≤ r → (sched m).duties g r = ∅ :=
  fun r hr => if_neg fun h => absurd h.1 (by omega)
theorem amount_cell : (sched m).amount (cell c k) 0 () = amt k := congrArg amt (kind_sems k)
theorem payload_cell : (sched m).payload (cell c k) 0 () = pay m c k := congrArg (pay m c) (kind_sems k)
theorem expect_cell : (sched m).expect (cell c k) 0 = amt k := by
  unfold Schedule.expect Schedule.amountOf; rw [duties_cell, Finset.sum_singleton, amount_cell]
/-- The whole round of a cell, nothing taken yet, is its one payload. -/
theorem rest_cell : bigSep ((sched m).duties (cell c k) 0 \ ∅) (fun d => (sched m).payload (cell c k) 0 d) = pay m c k := by
  rw [Finset.sdiff_empty, duties_cell, bigSep_singleton, payload_cell]

end Table

/-! ## Debts and levels -/

/-- What device `c` owes from launch until its exchange: its transfer's arrival on the peer and the peer's barrier unit. -/
def owed₀ (c : Dev nD) : CellTallies nD τ sig Unit := tallyAt (recvCell (peer c)) () N + tallyAt (barCell (peer c)) () 1

def L (g : GSem nD τ sig) : Finset Unit := if g.1.2 = .tc then {()} else ∅
/-- Barriers below receives, everything else below both. -/
def lv (g : GSem nD τ sig) (_ : Unit) : ℕ := if g.2 = .reg barS then 1 else if g.2 = .dma recvS.sem then 2 else 0

theorem L_off (g : GSem nD τ sig) (h : g.1.2 ≠ .tc) : L g = ∅ := if_neg h
theorem mem_L (c : Dev nD) (s : SemLoc sig) : () ∈ L ((c : Thread nD τ), s) := by
  rw [show L ((c : Thread nD τ), s) = {()} from if_pos rfl]; exact Finset.mem_singleton_self _
theorem lv_bar (c : Dev nD) : lv (barCell c) () = 1 := if_pos rfl
theorem lv_recv (c : Dev nD) : lv (recvCell c) () = 2 := (if_neg (show ¬ (SemLoc.dma recvS.sem : SemLoc sig) = .reg barS by decide)).trans (if_pos rfl)

/-- Only the peer's receive and barrier cells are owed anything. -/
theorem owed₀_pos {c : Dev nD} {g : GSem nD τ sig} {u : Unit} (h : 0 < owed₀ c g u) : g = recvCell (peer c) ∨ g = barCell (peer c) := by
  unfold owed₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging semaphore may be waited on whether the exchange's debts are still open or paid. -/
theorem wait_stage (c : Dev nD) (q : DmaSem sig) (hq : SemLoc.dma q ≠ .dma recvS.sem) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _)
      (fun g u hg => by rcases owed₀_pos hg with rfl | rfl <;> exact mem_L _ _)
      (fun p hp => by
        rw [Finset.mem_singleton.mp hp]
        exact le_of_eq ((if_neg (fun h => by cases h)).trans (if_neg hq)))
      (fun g u hg => by
        rcases owed₀_pos hg with rfl | rfl
        · exact (lv_recv _).symm ▸ (by decide : 0 < 2)
        · exact (lv_bar _).symm ▸ (by decide : 0 < 1))
  · rw [MayWait_zero]; iintro -; iempintro

omit [FloatOps F] in
/-- At its barrier wait a device owes only its transfer's arrival, on a higher cell. -/
theorem wait_bar (c : Dev nD) : (levAts L lv : sProp 𝕄) ⊢ MayWait (c : Thread nD τ) (.reg barS) () (tallyAt (recvCell (peer c)) () N) := by
  have key : ∀ {g : GSem nD τ sig} {u : Unit}, 0 < tallyAt (recvCell (peer c)) () N g u → g = recvCell (peer c) := fun {g u} hg => by
    rw [tallyAt_apply] at hg
    by_contra h
    rw [if_neg (fun h' => h h'.1)] at hg
    exact Nat.lt_irrefl 0 hg
  exact MayOwe.of_cut (L := L) (lev := lv) 1 (fun p hp => by rw [Finset.mem_singleton.mp hp]; exact mem_L c _)
    (fun g u hg => by rw [key hg]; exact mem_L _ _)
    (fun p hp => by rw [Finset.mem_singleton.mp hp]; exact le_of_eq (lv_bar c))
    (fun g u hg => by rw [key hg]; exact (lv_recv _).symm ▸ (by decide : 1 < 2))

/-! ## What a device holds between points -/

/-- The invariants of the cells device `c` touches, under the names `K`. -/
def invs (K : Dev nD × Fin 3 → ℕ) (c : Dev nD) : sProp 𝕄 :=
  iprop(cellInv EX (sched m) (K (c, 0)) (barCell c) ∗ cellInv EX (sched m) (K (c, 1)) (sendCell c) ∗ cellInv EX (sched m) (K (c, 2)) (recvCell c)
    ∗ cellInv EX (sched m) (K (peer c, 0)) (barCell (peer c)) ∗ cellInv EX (sched m) (K (peer c, 2)) (recvCell (peer c)))

instance invs_persistent (K : Dev nD × Fin 3 → ℕ) (c : Dev nD) : BI.Persistent (invs m K c) := by unfold invs; infer_instance

/-- Its positions on its own cells, the marks of the cells it pays and shows, and the tokens it pays with. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (peer c)) 0 ∗ reached EX (recvCell (peer c)) 0 ∗ reached EX (sendCell c) 0 ∗ reached EX (recvCell c) 0
    ∗ dutyTok EX (barCell (peer c)) 0 () ∗ dutyTok EX (recvCell (peer c)) 0 () ∗ dutyTok EX (sendCell c) 0 ())

/-- What the exchange will need: that at some names, the credit for what others pay into its cells, and the levels. -/
def start (c : Dev nD) : sProp 𝕄 :=
  iprop((∃ K, ghost m K c) ∗ cred (tallyAt (barCell c) () 1) ∗ cred (tallyAt (recvCell c) () N) ∗ levAts L lv)

/-- The first `n` tiles of an accumulator are in. -/
def Filled (c : Dev nD) (n : ℕ) (f : Vec F S8192x1 .f32) : Prop := ∀ p : S8192x1.Idx, (p 0).val < 1024 * n → f p = accFull m c p

/-- Before point `n` of the first half: the exchange still to come, `n` tiles summed, the other two buffers free. -/
def before₁ (c : Dev nD) (n : ℕ) : sProp 𝕄 :=
  iprop(start m c ∗ (∃ f : Vec F S8192x1 .f32, ⌜Filled m c n f⌝ ∗ accAt c f) ∗ (∃ f : Vec F S8192x1 .f32, invAt c f) ∗ (∃ f : Vec F S8192x1 .f32, comAt c f))

/-- In the second half: the reciprocal roots known, the exchange's cells closed at zero. -/
def before₂ (c : Dev nD) : sProp 𝕄 :=
  iprop(invAt c (invFull m c) ∗ (∃ f : Vec F S8192x1 .f32, accAt c f) ∗ (∃ f : Vec F S8192x1 .f32, comAt c f)
    ∗ semVal (sendCell c) 0 ∗ semVal (recvCell c) 0 ∗ semVal (barCell c) 0)

/-- What device `c` holds before point `n`. -/
def held (c : Dev nD) (n : ℕ) : sProp 𝕄 := if n ≤ 7 then before₁ m c n else before₂ m c
/-- What it owes there. -/
def owedAt (c : Dev nD) (n : ℕ) : CellTallies nD τ sig Unit := if n ≤ 7 then owed₀ c else 0

theorem held_lo (c : Dev nD) {n : ℕ} (h : n ≤ 7) : held m c n = before₁ m c n := if_pos h
theorem held_hi (c : Dev nD) {n : ℕ} (h : 8 ≤ n) : held m c n = before₂ m c := if_neg (by omega)
theorem owedAt_lo (c : Dev nD) {n : ℕ} (h : n ≤ 7) : owedAt c n = owed₀ c := if_pos h
theorem owedAt_hi (c : Dev nD) {n : ℕ} (h : 8 ≤ n) : owedAt c n = 0 := if_neg (by omega)

/-- The pipeline's proof data on device `c`. -/
def dats (_ : Fin 1) (c : Dev nD) : Dat τ (Elt F) Unit ℕ UU ℕ cfg0 c where
  A w := V m c (Pipeline.arrRef spec0 w)
  after w t := match w with
    | ⟨0, _⟩ => xblk m c t
    | ⟨1, _⟩ => gblk m c t
    | ⟨2, _⟩ => outTile m c t
  Φ t := held m c t.val
  q _ := fullShare
  owed t := owedAt c t.val

end Cert.KernelIdeal.RowNorm

end
-- ==== Proof.KernelIdeal.Body.lean ====
/-
The kernel's body, run once per kind of grid point at a symbolic device:
* every point of the first half sums the squares of its staged rows into its tile of the accumulator;
* the last point of the first half then exchanges accumulators with the peer and stores the reciprocal roots;
* every point of the second half scales its staged rows.
-/
module

public import proofs.«01_k».proof.Proof.KernelIdeal.Protocol
public import Idealize.ShloMosaic.Lib.VecWindow
public import Idealize.ShloMosaic.Lib.WritesUnit
public import Idealize.ShloMosaic.Lib.Pipeline.TableIdle

@[expose] public section

noncomputable section

namespace Cert.KernelIdeal.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The proof names no variants. -/
abbrev 𝒱₀ : Variants := Variants.none

/-! ## The grid: which branch runs where -/

theorem coord_eq : ∀ t : Fin grid0.N, (grid0.coords t 0).val = t.val := by decide +kernel
theorem sums_iff : ∀ t : Fin grid0.N, k0_cond1 (grid0.coords t) = 1#1 ↔ t.val < 8 := by decide +kernel
theorem swaps_iff : ∀ t : Fin grid0.N, k0_cond2 (grid0.coords t) = 1#1 ↔ t.val = 7 := by decide +kernel
theorem scales_iff : ∀ t : Fin grid0.N, k0_cond3 (grid0.coords t) = 1#1 ↔ 8 ≤ t.val := by decide +kernel
theorem off2_eq : ∀ t : Fin grid0.N, 8 ≤ t.val → k0_off2 (grid0.coords t) = ![1024 * (t.val - 8), 0] := by decide +kernel
theorem idle_iff : ∀ t : Fin grid0.N, idle0 2 (grid0.coords t) = true ↔ t.val < 8 := by decide +kernel
/-- The result's block is written back exactly at the points of the second half. -/
theorem flush_iff : ∀ t : Fin grid0.N, win0_2.flush t = true ↔ 8 ≤ t.val := by decide +kernel

/-! ## What the accesses read and write -/

/-- The tile of the accumulator point `i` writes. -/
abbrev tileR (i : grid0.Coords) (h : k0_cond1 i = 1#1) : Rect S8192x1 := Rect.unit (s := S8192x1) (k0_off1 i) S1024x1.size (k0_off1_inb i h)

/-- A row of tile `t` of the full accumulator is what point `t` computed. -/
theorem accFull_tile (c : Dev nD) (t : Fin cfg0.N) (p : S8192x1.Idx) (h8 : t.val < 8) (hlo : 1024 * t.val ≤ (p 0).val) (hhi : (p 0).val < 1024 * (t.val + 1)) :
    accFull m c p = k0_pay1 (xblk m c t) (row ⟨(p 0).val % 1024, Nat.mod_lt _ (by decide)⟩) :=
  congrArg (fun s => k0_pay1 (xblk m c s) (row ⟨(p 0).val % 1024, Nat.mod_lt _ (by decide)⟩))
    (show tileOf (p 0).val = t from Fin.ext (by show (p 0).val / 1024 % 16 = t.val; omega))

section Stores
variable {sp : Space} {e : EltTy}

omit [FloatOps F] in
/-- A store of a whole buffer, read back. -/
theorem read_store {s : Shape} (M : Memref sig .tc sp s e) (f : M.view.ty.Contents (Elt F)) {off : Fin s.rank → ℕ} (inb : ∀ a, off a + s.size a ≤ s.size a)
    (w : s.Idx → Elt F e) : M.view.read (Elt F) ((M.access (Rect.unit off s.size inb)).write (Elt F) f w Finset.univ) = w :=
  View.read_writes_full M.view f inb w []

omit [FloatOps F] in
/-- A store of rows `o …` of a matrix, read back at a stored row; -/
theorem read_rows_in {d : Fin 2 → ℕ} (M : Memref sig .tc sp ⟨2, d⟩ e) (f : M.view.ty.Contents (Elt F)) {off size : Fin 2 → ℕ} {o : ℕ}
    (inb : ∀ a : Fin 2, off a + size a ≤ d a) (w : (⟨2, size⟩ : Shape).Idx → Elt F e) (y : (⟨2, d⟩ : Shape).Idx) (x : (⟨2, size⟩ : Shape).Idx)
    (hoff : off = ![o, 0]) (h0 : (y 0).val = o + (x 0).val) (h1 : (y 1).val = (x 1).val) :
    M.view.read (Elt F) ((M.access (Rect.unit (s := ⟨2, d⟩) off size inb)).write (Elt F) f w Finset.univ) y = w x :=
  View.read_writes_cons_rows_of_mem M.view f inb w [] y x hoff h0 h1

omit [FloatOps F] in
/-- and at a row before them. -/
theorem read_rows_out {d : Fin 2 → ℕ} (M : Memref sig .tc sp ⟨2, d⟩ e) (f : M.view.ty.Contents (Elt F)) {off size : Fin 2 → ℕ} {o : ℕ}
    (inb : ∀ a : Fin 2, off a + size a ≤ d a) (w : (⟨2, size⟩ : Shape).Idx → Elt F e) (y : (⟨2, d⟩ : Shape).Idx)
    (hoff : off = ![o, 0]) (h0 : (y 0).val < o) :
    M.view.read (Elt F) ((M.access (Rect.unit (s := ⟨2, d⟩) off size inb)).write (Elt F) f w Finset.univ) y = M.view.read (Elt F) f y :=
  View.read_writes_cons_rows_of_not_mem M.view f inb w [] y hoff rfl (.inl h0)

end Stores

omit [FloatOps F] in
/-- A tile stored over the accumulator, read back at a row: the tile's row inside it, what was there outside. -/
theorem tile_write (t : Fin cfg0.N) (h : k0_cond1 (grid0.coords t) = 1#1) (f : Vec F S8192x1 .f32) (w : Vec F S1024x1 .f32) (p : S8192x1.Idx)
    (h8 : t.val < 8) (hhi : (p 0).val < 1024 * (t.val + 1)) :
    ((accM : Memref sig .tc .vmem S8192x1 .f32).access (tileR (grid0.coords t) h)).write (Elt F) f w Finset.univ p
      = if (p 0).val < 1024 * t.val then f p else w (row ⟨(p 0).val % 1024, Nat.mod_lt _ (by decide)⟩) := by
  have hoff : k0_off1 (grid0.coords t) = ![1024 * t.val, 0] := by rw [k0_off1_eq, coord_eq]
  have hp1 : (p 1).val = 0 := by have h1 : (p 1).val < 1 := (p 1).isLt; omega
  refine (congrFun (View.read_whole (Val := Elt F) cc0_scratch0 _) p).symm.trans ?_
  by_cases hlt : (p 0).val < 1024 * t.val
  · rw [if_pos hlt]
    exact (read_rows_out accM f (k0_off1_inb (grid0.coords t) h) w p hoff hlt).trans (congrFun (View.read_whole (Val := Elt F) cc0_scratch0 f) p)
  · rw [if_neg hlt]
    exact read_rows_in accM f (k0_off1_inb (grid0.coords t) h) w p (row ⟨(p 0).val % 1024, Nat.mod_lt _ (by decide)⟩) hoff
      (by show (p 0).val = 1024 * t.val + (p 0).val % 1024; omega) hp1

/-- Storing its row sums at point `t` extends the filled part of the accumulator by one tile. -/
theorem filled_step (c : Dev nD) (t : Fin cfg0.N) (h : k0_cond1 (grid0.coords t) = 1#1) (f : Vec F S8192x1 .f32) (hf : Filled m c t.val f) :
    Filled m c (t.val + 1) (((accM : Memref sig .tc .vmem S8192x1 .f32).access (tileR (grid0.coords t) h)).write (Elt F) f (k0_pay1 (xblk m c t)) Finset.univ) := by
  intro p hp
  have h8 : t.val < 8 := (sums_iff t).mp h
  rw [tile_write t h f _ p h8 hp]
  by_cases hlt : (p 0).val < 1024 * t.val
  · rw [if_pos hlt]; exact hf p hlt
  · rw [if_neg hlt]; exact (accFull_tile m c t p h8 (not_lt.mp hlt) hp).symm

omit [FloatOps F] in
theorem zero2 : (![0, 0] : Fin 2 → Nat) = fun _ => 0 := funext fun a => by fin_cases a <;> rfl

/-- The whole of a column buffer. -/
abbrev allR : Rect S8192x1 := Rect.unit (s := S8192x1) ![0, 0] S8192x1.size inb_S8192x1_S8192x1_0_0

omit [FloatOps F] in
/-- A landing writes the whole buffer: it then holds what the source held. -/
theorem landed_eq (fd fs : Vec F S8192x1 .f32) :
    (comM : Memref sig .tc .vmem S8192x1 .f32).view.write (Elt F) fd ((accM : Memref sig .tc .vmem S8192x1 .f32).view.read (Elt F) fs) Finset.univ = fs := by
  show (View.whole cc0_scratch2).write (Elt F) fd ((View.whole cc0_scratch0).read (Elt F) fs) Finset.univ = fs
  rw [View.read_whole]
  exact View.write_whole_univ _ _ _

/-- The reciprocal roots loaded at point `t` of the second half. -/
theorem read_inv (c : Dev nD) (t : Fin cfg0.N) (h : k0_cond3 (grid0.coords t) = 1#1) :
    (invM : Memref sig .tc .vmem S8192x1 .f32).view.readAt (Elt F)
      (Rect.unit (s := S8192x1) (k0_off2 (grid0.coords t)) S1024x1.size (k0_off2_inb (grid0.coords t) h)).toLoadRect (invFull m c) = invTile m c t := by
  have h8 : 8 ≤ t.val := (scales_iff t).mp h
  have h16 : t.val < 16 := lt_of_lt_of_eq t.isLt N_0
  funext p
  refine congrArg (invFull m c) (funext fun a => Fin.ext ?_)
  have hp : (p 0).val < 1024 := (p 0).isLt
  have hq : (p 1).val < 1 := (p 1).isLt
  match a with
  | ⟨0, _⟩ =>
    have e : k0_off2 (grid0.coords t) 0 = 1024 * (t.val - 8) := congrFun (off2_eq t h8) 0
    show k0_off2 (grid0.coords t) 0 + 1 * (p 0).val = (1024 * (t.val - 8) + (p 0).val) % 8192
    omega
  | ⟨1, _⟩ =>
    have e : k0_off2 (grid0.coords t) 1 = 0 := congrFun (off2_eq t h8) 1
    show k0_off2 (grid0.coords t) 1 + 1 * (p 1).val = 0
    omega

/-! ## The first half's sums -/

/-- The two loads and the store that sum a tile, before any continuation. -/
theorem wp_sum (c : Dev nD) (t : Fin cfg0.N) (h : k0_cond1 (grid0.coords t) = 1#1) (M : Memref sig .tc .vmem S1024x2048 .f32) (hM : M.IsWhole)
    (f : Vec F S8192x1 .f32) (hf : Filled m c t.val f) {α : Type} (k : PUnit → Prog (TpuEff nD τ sig (Elt F) Λ₀ .tc) α) (Q : α → sProp 𝕄)
    {l1 : M.view.LoadsAt (Rect.unit (s := S1024x2048) ![0, 0] S1024x2048.size inb_S1024x2048_S1024x2048_0_0).toLoadRect}
    {l2 : (accM : Memref sig .tc .vmem S8192x1 .f32).view.LoadsAt (tileR (grid0.coords t) h).toLoadRect}
    {hx : ((accM : Memref sig .tc .vmem S8192x1 .f32).access (tileR (grid0.coords t) h)).Stores Finset.univ} {hm} :
    iprop(owns (c : Thread nD τ) M fullShare (xblk m c t) ∗ accAt c f
        ∗ (iprop(owns (c : Thread nD τ) M fullShare (xblk m c t) ∗ ∃ f : Vec F S8192x1 .f32, ⌜Filled m c (t.val + 1) f⌝ ∗ accAt c f)
            -∗ wp frame (wpE (defs₀ (F := F)) 𝒱₀ c none) Set.univ (k ⟨⟩) Q))
      ⊢ wp frame (wpE (defs₀ (F := F)) 𝒱₀ c none) Set.univ
          (.op (.load M (Rect.unit (s := S1024x2048) ![0, 0] S1024x2048.size inb_S1024x2048_S1024x2048_0_0).toLoadRect l1) fun v =>
            .op (.load accM (tileR (grid0.coords t) h).toLoadRect l2) fun _ =>
              .op (.store accM (tileR (grid0.coords t) h) (k0_pay1 v) Finset.univ hx hm) k) Q := by
  rw [owns_eq_rep]
  unfold accAt
  iintro ⟨Hx, Ha, Hk⟩
  iapply (wp_load 𝒱₀ (c : Thread nD τ) none Set.univ (m := M) (View.setOn_subset_set _ _)) $$ Hx; iintro Hx
  rw [View.readAt_rep_full]
  iapply (wp_load 𝒱₀ (c : Thread nD τ) none Set.univ (m := accM) (View.setOn_subset_set _ _)) $$ Ha; iintro Ha
  iapply (wp_store 𝒱₀ (c : Thread nD τ) none Set.univ (m := accM) (r := tileR (grid0.coords t) h) (Mk := Finset.univ)
    (by rw [View.set_whole]; exact Finset.subset_univ _)) $$ Ha; iintro Ha
  iapply Hk
  isplitl [Hx]; · iexact Hx
  iexists _; isplitr; · ipureintro; exact filled_step m c t h f hf
  iexact Ha

/-- The body as the pipeline calls it, at any staging memrefs. -/
abbrev bodyOn (t : Fin cfg0.N) (M1 : Memref sig .tc .vmem S1024x2048 .f32) (h1 : M1.IsWhole) (M2 : Memref sig .tc .vmem S2048 .f32) (h2 : M2.IsWhole)
    (M3 : Memref sig .tc .vmem S1024x2048 .f32) (h3 : M3.IsWhole) : Prog (TpuEff nD τ sig (Elt F) Λ₀ .tc) PUnit :=
  cc0__body (grid0.coords t) M1 h1 M2 h2 M3 h3 (Memref.whole cc0_scratch0) (Memref.isWhole_whole _) (Memref.whole cc0_scratch1) (Memref.isWhole_whole _)
    (Memref.whole cc0_scratch2) (Memref.isWhole_whole _) cc0_scratch3 cc0_scratch4

variable (t : Fin cfg0.N) (M1 : Memref sig .tc .vmem S1024x2048 .f32) (h1 : M1.IsWhole) (M2 : Memref sig .tc .vmem S2048 .f32) (h2 : M2.IsWhole)
    (M3 : Memref sig .tc .vmem S1024x2048 .f32) (h3 : M3.IsWhole)

/-- Before the exchange, a point only sums. -/
theorem run_sum (c : Dev nD) (ht : t.val < 7) (Q : PUnit → sProp 𝕄) (f : Vec F S8192x1 .f32) (hf : Filled m c t.val f) :
    iprop(owns (c : Thread nD τ) M1 fullShare (xblk m c t) ∗ accAt c f
        ∗ (iprop(owns (c : Thread nD τ) M1 fullShare (xblk m c t) ∗ ∃ f : Vec F S8192x1 .f32, ⌜Filled m c (t.val + 1) f⌝ ∗ accAt c f) -∗ Q ⟨⟩))
      ⊢ wp frame (wpE (defs₀ (F := F)) 𝒱₀ c none) Set.univ (bodyOn (F := F) t M1 h1 M2 h2 M3 h3) Q := by
  have c1 : k0_cond1 (grid0.coords t) = 1#1 := (sums_iff t).mpr (by omega)
  have c2 : ¬ k0_cond2 (grid0.coords t) = 1#1 := fun h => by have := (swaps_iff t).mp h; omega
  have c3 : ¬ k0_cond3 (grid0.coords t) = 1#1 := fun h => by have := (scales_iff t).mp h; omega
  simp only [bodyOn, cc0__body_eq_skeleton]; unfold cc0__body_skel
  simp only [dif_pos c1, dif_neg c2, dif_neg c3, Prog.lift, Prog.bind_op, Prog.bind_ret, Prog.pure_eq_ret]
  iintro ⟨Hx, Ha, Hk⟩
  iapply (wp_sum m c t c1 M1 h1 f hf (fun _ => Prog.ret ⟨⟩) Q)
  isplitl [Hx]; · iexact Hx
  isplitl [Ha]; · iexact Ha
  iintro H
  rw [wp_ret]; imodintro
  iapply Hk; iexact H

/-! ## The second half's scaling -/

/-- A point of the second half leaves its rows scaled in the result's buffer. -/
theorem run_scale (c : Dev nD) (ht : 8 ≤ t.val) (Q : PUnit → sProp 𝕄) (d : Vec F S1024x2048 .f32) :
    iprop(owns (c : Thread nD τ) M1 fullShare (xblk m c t) ∗ owns (c : Thread nD τ) M2 fullShare (gblk m c t) ∗ owns (c : Thread nD τ) M3 fullShare d
        ∗ invAt c (invFull m c)
        ∗ (iprop(owns (c : Thread nD τ) M1 fullShare (xblk m c t) ∗ owns (c : Thread nD τ) M2 fullShare (gblk m c t)
            ∗ owns (c : Thread nD τ) M3 fullShare (outTile m c t) ∗ invAt c (invFull m c)) -∗ Q ⟨⟩))
      ⊢ wp frame (wpE (defs₀ (F := F)) 𝒱₀ c none) Set.univ (bodyOn (F := F) t M1 h1 M2 h2 M3 h3) Q := by
  have c1 : ¬ k0_cond1 (grid0.coords t) = 1#1 := fun h => by have := (sums_iff t).mp h; omega
  have c2 : ¬ k0_cond2 (grid0.coords t) = 1#1 := fun h => by have := (swaps_iff t).mp h; omega
  have c3 : k0_cond3 (grid0.coords t) = 1#1 := (scales_iff t).mpr ht
  simp only [bodyOn, cc0__body_eq_skeleton]; unfold cc0__body_skel
  simp only [dif_neg c1, dif_neg c2, dif_pos c3, Prog.lift, Prog.bind_op, Prog.bind_ret, Prog.pure_eq_ret]
  rw [owns_eq_rep, owns_eq_rep, owns_eq_rep (X := d)]
  unfold invAt
  iintro ⟨Hx, Hg, Ho, Hi, Hk⟩
  iapply (wp_load 𝒱₀ (c : Thread nD τ) none Set.univ (m := invM) (View.setOn_subset_set _ _)) $$ Hi; iintro Hi
  rw [read_inv m c t c3]
  iapply (wp_load 𝒱₀ (c : Thread nD τ) none Set.univ (m := M1) (View.setOn_subset_set _ _)) $$ Hx; iintro Hx
  rw [View.readAt_rep_full]
  iapply (wp_load 𝒱₀ (c : Thread nD τ) none Set.univ (m := M2) (View.setOn_subset_set _ _)) $$ Hg; iintro Hg
  rw [View.readAt_rep_full]
  iapply (wp_load 𝒱₀ (c : Thread nD τ) none Set.univ (m := M3) (View.setOn_subset_set _ _)) $$ Ho; iintro Ho
  iapply (wp_store 𝒱₀ (c : Thread nD τ) none Set.univ (m := M3) (Mk := Finset.univ)
    (r := Rect.unit (s := S1024x2048) ![0, 0] S1024x2048.size inb_S1024x2048_S1024x2048_0_0) (View.setOn_slice_subset_set M3.view _ _)) $$ Ho; iintro Ho
  rw [wp_ret]; imodintro
  iapply Hk
  isplitl [Hx]; · iexact Hx
  isplitl [Hg]; · iexact Hg
  isplitl [Ho]
  · unfold owns
    iexists _; isplitr
    · ipureintro; exact read_store M3 (M3.view.rep d) inb_S1024x2048_S1024x2048_0_0 (outTile m c t)
    iexact Ho
  iexact Hi

end Cert.KernelIdeal.RowNorm

end
-- ==== Proof.KernelIdeal.Exchange.lean ====
/-
The last point of the first half: its tile summed, the accumulators exchanged with the peer, the reciprocal roots
stored, the exchange's cells closed.
-/
module

public import proofs.«01_k».proof.Proof.KernelIdeal.Body

@[expose] public section

noncomputable section

namespace Cert.KernelIdeal.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- An accumulator with all eight tiles in is the full one. -/
theorem filled_all (c : Dev nD) (f : Vec F S8192x1 .f32) (hf : Filled m c 8 f) : f = accFull m c :=
  funext fun p => hf p (by have h : (p 0).val < 8192 := (p 0).isLt; omega)

/-- The transfer of the accumulator into the peer's landing buffer: both duties' payloads follow. -/
theorem wp_push (K : Dev nD × Fin 3 → ℕ) (c n : Dev nD) (hn : n = peer c)
    {hsc : (comM : Memref sig (Dev.tc n : Thread nD τ).2.kind .vmem S8192x1 .f32).view.ref.isScScratch = false}
    {hsrc : (accM : Memref sig .tc .vmem S8192x1 .f32).view.WordExact} {hdst : (comM : Memref sig .tc .vmem S8192x1 .f32).view.WordExact}
    {hsem : DmaTarget.Typed .vmem (.dma recvS.sem) (.remote (Dev.tc n : Thread nD τ) (comM : Memref sig .tc .vmem S8192x1 .f32) (.dma sendS.sem) hsc)}
    {α : Type} {Q : α → sProp 𝕄} {k : PUnit → Prog (TpuEff nD τ sig (Elt F) Λ₀ .tc) α} (fn : Vec F S8192x1 .f32) (W : Waits sig Unit) :
    iprop(cellInv EX (sched m) (K (c, 1)) (sendCell c) ∗ cellInv EX (sched m) (K (peer c, 2)) (recvCell (peer c))
        ∗ accAt c (accFull m c) ∗ comAt (peer c) fn ∗ owes (c : Thread nD τ) (tallyAt (recvCell (peer c)) () N) W
        ∗ dutyTok EX (sendCell c) 0 () ∗ reached EX (sendCell c) 0
        ∗ dutyTok EX (recvCell (peer c)) 0 () ∗ reached EX (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc n : Thread nD τ) comM (.dma sendS.sem) hsc) (.dma recvS.sem) hsrc hdst hsem) k) Q) := by
  subst hn
  unfold accAt comAt
  have a1 : (sched m).amount (sendCell c) 0 () = N := amount_cell m c 1
  have a2 : (sched m).amount (recvCell (peer c)) 0 () = N := amount_cell m (peer c) 2
  have e1 : () ∈ (sched m).duties (sendCell c) 0 := duty_mem m c 1
  have e2 : () ∈ (sched m).duties (recvCell (peer c)) 0 := duty_mem m (peer c) 2
  have p1 : accAt c (accFull m c) ⊢ (sched m).payload (sendCell c) 0 () := Entails.of_eq (payload_cell m c 1).symm
  have p2 : comAt (peer c) (accFull m c) ⊢ (sched m).payload (recvCell (peer c)) 0 () := Entails.of_eq (by
      refine Eq.trans ?_ (payload_cell m (peer c) 2).symm
      show _ = comAt (peer c) (accFull m (peer (peer c)))
      rw [peer_peer])
  unfold accAt at p1
  unfold comAt at p2
  rw [← landed_eq fn (accFull m c)] at p2
  exact Rounds.wp_send_pointsTo (src := accM) (dst := comM) (fs := accFull m c) (c' := (peer c : Thread nD τ)) (q := fullShare) (sS := .dma sendS.sem) (sem := .dma recvS.sem) (hsc := hsc) (hsrc := hsrc) (hdst := hdst) (hsem := hsem) (k := k) (Q := Q) (defs := defs₀ (F := F)) (Es := Set.univ) 𝒱₀ EX (sched m) (c : Thread nD τ) none (κ₁ := K (c, 1)) (κ₂ := K (peer c, 2))
    (r₁ := 0) (r₂ := 0) (d₁ := ()) (d₂ := ()) (fd := fn) e1 e2 () () N com_amount a1 a2 0 (zero_add _).symm (W := W) p1 p2

/-- Telling the peer that this device's landing buffer is free: the buffer goes with the word. -/
theorem wp_tell (K : Dev nD × Fin 3 → ℕ) (c n : Dev nD) (hn : n = peer c) {α : Type} {Q : α → sProp 𝕄}
    {k : PUnit → Prog (TpuEff nD τ sig (Elt F) Λ₀ .tc) α} (fc : Vec F S8192x1 .f32) (W : Waits sig Unit) :
    iprop(cellInv EX (sched m) (K (peer c, 0)) (barCell (peer c)) ∗ owes (c : Thread nD τ) (owed₀ c) W ∗ dutyTok EX (barCell (peer c)) 0 ()
        ∗ comAt c fc ∗ reached EX (recvCell c) 0 ∗ reached EX (barCell (peer c)) 0)
      ⊢ iprop((owes (c : Thread nD τ) (tallyAt (recvCell (peer c)) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  have a : (sched m).amount (barCell (peer c)) 0 () = (1#32).toNat := (amount_cell m (peer c) 0).trans (by decide)
  have e : () ∈ (sched m).duties (barCell (peer c)) 0 := duty_mem m (peer c) 0
  have p : iprop(comAt c fc ∗ reached EX (recvCell c) 0) ⊢ (sched m).payload (barCell (peer c)) 0 () := by
    rw [show (sched m).payload (barCell (peer c)) 0 () = pay m (peer c) 0 from payload_cell m (peer c) 0]
    show _ ⊢ iprop((∃ f : Vec F S8192x1 .f32, comAt (peer (peer c)) f) ∗ reached EX (recvCell (peer (peer c))) 0)
    rw [peer_peer]
    iintro ⟨Hc, Hr⟩
    isplitl [Hc]; · iexists fc; iexact Hc
    iexact Hr
  iintro ⟨HI, HO, Ht, Hc, Hv, Hb⟩
  iapply (Rounds.wp_signal (defs := defs₀ (F := F)) (Es := Set.univ) (k := k) (Q := Q) 𝒱₀ EX (sched m) (c : Thread nD τ) none (dst := (peer c : Thread nD τ))
    (κ := K (peer c, 0)) (d := ()) (sem := barS) (r := 0) e a () (O₀ := owed₀ c) (tallyAt (recvCell (peer c)) () N) rfl (W := W))
  isplitl [HI]; · iexact HI
  isplitl [HO]; · iexact HO
  isplitl [Ht]; · iexact Ht
  isplitl [Hc Hv]
  · iapply p
    isplitl [Hc]; · iexact Hc
    iexact Hv
  iexact Hb

/-- Waiting for the one round of an own cell: its payload comes out. -/
theorem wp_take (K : Dev nD × Fin 3 → ℕ) (c : Dev nD) (j : Fin 3) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (sems j) (amt j) P)
    {α : Type} {Q : α → sProp 𝕄} {k : PUnit → Prog (TpuEff nD τ sig (Elt F) Λ₀ .tc) α} (O : CellTallies nD τ sig Unit) (W : Waits sig Unit) :
    iprop(cellInv EX (sched m) (K (c, j)) (cell c j) ∗ cred (tallyAt (cell c j) () (amt j)) ∗ owes (c : Thread nD τ) O W
        ∗ MayWait (c : Thread nD τ) (sems j) () O ∗ atPos EX (cell c j) 0 ∅ 0)
      ⊢ iprop(((∃ W, owes (c : Thread nD τ) O W) ∗ atPos EX (cell c j) 1 ∅ 0 ∗ pay m c j
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro H Hk
  iapply (Rounds.wp_wait_rest_token 𝒱₀ EX (sched m) (c : Thread nD τ) none (κ := K (c, j)) hw (Set.mem_univ _) () (O := O) (W := W) (R := 0) (m := 0) (T := ∅)
    ((Nat.zero_add _).trans (expect_cell m c j).symm)) $$ H
  rw [rest_cell m c j]
  iintro ⟨HO, Hat, -, Hp⟩
  iapply Hk
  isplitl [HO]; · iexists _; iexact HO
  isplitl [Hat]; · iexact Hat
  iexact Hp

/-- The loads of both accumulators and the store of the reciprocal roots, before any continuation. -/
theorem wp_roots (c : Dev nD) (fa fb fi : Vec F S8192x1 .f32) {α : Type} {Q : α → sProp 𝕄} {k : PUnit → Prog (TpuEff nD τ sig (Elt F) Λ₀ .tc) α}
    {l1 : (accM : Memref sig .tc .vmem S8192x1 .f32).view.LoadsAt allR.toLoadRect} {l2 : (comM : Memref sig .tc .vmem S8192x1 .f32).view.LoadsAt allR.toLoadRect}
    {l3 : (invM : Memref sig .tc .vmem S8192x1 .f32).view.LoadsAt allR.toLoadRect}
    {hx : ((invM : Memref sig .tc .vmem S8192x1 .f32).access allR).Stores Finset.univ} {hm} :
    iprop(accAt c fa ∗ comAt c fb ∗ invAt c fi)
      ⊢ iprop((iprop(accAt c fa ∗ comAt c fb ∗ invAt c (k0_pay2 (k0_pay4 fa fb)))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load accM allR.toLoadRect l1) fun v => .op (.load comM allR.toLoadRect l2) fun w => .op (.load invM allR.toLoadRect l3) fun _ =>
            .op (.store invM allR (k0_pay2 (k0_pay4 v w)) Finset.univ hx hm) k) Q) := by
  have ea : (accM : Memref sig .tc .vmem S8192x1 .f32).view.readAt (Elt F) allR.toLoadRect fa = fa :=
    Memref.readAt_unit_zero (Elt F) cc0_scratch0 zero2 _ _
  have eb : (comM : Memref sig .tc .vmem S8192x1 .f32).view.readAt (Elt F) allR.toLoadRect fb = fb :=
    Memref.readAt_unit_zero (Elt F) cc0_scratch2 zero2 _ _
  have ei : ((invM : Memref sig .tc .vmem S8192x1 .f32).access allR).write (Elt F) fi (k0_pay2 (k0_pay4 fa fb)) Finset.univ = k0_pay2 (k0_pay4 fa fb) :=
    Memref.write_access_unit_zero_univ (Elt F) cc0_scratch1 zero2 _ _ _
  unfold accAt comAt invAt
  iintro ⟨Ha, Hc, Hi⟩ Hk
  iapply (wp_load 𝒱₀ (c : Thread nD τ) none Set.univ (m := accM) (View.setOn_subset_set _ _)) $$ Ha; iintro Ha
  rw [ea]
  iapply (wp_load 𝒱₀ (c : Thread nD τ) none Set.univ (m := comM) (View.setOn_subset_set _ _)) $$ Hc; iintro Hc
  rw [eb]
  iapply (wp_load 𝒱₀ (c : Thread nD τ) none Set.univ (m := invM) (View.setOn_subset_set _ _)) $$ Hi; iintro Hi
  iapply (wp_store 𝒱₀ (c : Thread nD τ) none Set.univ (m := invM) (r := allR) (Mk := Finset.univ)
    (by rw [View.set_whole]; exact Finset.subset_univ _)) $$ Hi; iintro Hi
  rw [ei]
  iapply Hk
  isplitl [Ha]; · iexact Ha
  isplitl [Hc]; · iexact Hc
  iexact Hi

/-- What the exchange's point starts from, beside its staged block: its debts open and all but its own tile summed. -/
def swapPre (K : Dev nD × Fin 3 → ℕ) (c : Dev nD) (W : Waits sig Unit) (finv fcom : Vec F S8192x1 .f32) : sProp 𝕄 :=
  iprop(ghost m K c ∗ cred (tallyAt (barCell c) () 1) ∗ cred (tallyAt (recvCell c) () N) ∗ levAts L lv
    ∗ invAt c finv ∗ comAt c fcom ∗ owes (c : Thread nD τ) (owed₀ c) W)

variable (t : Fin cfg0.N) (M1 : Memref sig .tc .vmem S1024x2048 .f32) (h1 : M1.IsWhole) (M2 : Memref sig .tc .vmem S2048 .f32) (h2 : M2.IsWhole)
    (M3 : Memref sig .tc .vmem S1024x2048 .f32) (h3 : M3.IsWhole)

/-- The last point of the first half: the last tile summed, the accumulators exchanged, the reciprocal roots stored,
    the three cells closed and nothing owed. -/
theorem run_swap (K : Dev nD × Fin 3 → ℕ) (c : Dev nD) (ht : t.val = 7) (Q : PUnit → sProp 𝕄) (f finv fcom : Vec F S8192x1 .f32) (hf : Filled m c t.val f)
    (W : Waits sig Unit) :
    iprop(owns (c : Thread nD τ) M1 fullShare (xblk m c t) ∗ accAt c f ∗ swapPre m K c W finv fcom
        ∗ (iprop(owns (c : Thread nD τ) M1 fullShare (xblk m c t) ∗ before₂ m c ∗ ∃ W, owes (c : Thread nD τ) 0 W) -∗ Q ⟨⟩))
      ⊢ wp frame (wpE (defs₀ (F := F)) 𝒱₀ c none) Set.univ (bodyOn (F := F) t M1 h1 M2 h2 M3 h3) Q := by
  have c1 : k0_cond1 (grid0.coords t) = 1#1 := (sums_iff t).mpr (by omega)
  have c2 : k0_cond2 (grid0.coords t) = 1#1 := (swaps_iff t).mpr ht
  have c3 : ¬ k0_cond3 (grid0.coords t) = 1#1 := fun h => by have := (scales_iff t).mp h; omega
  simp only [bodyOn, cc0__body_eq_skeleton]; unfold cc0__body_skel
  simp only [dif_pos c1, dif_pos c2, dif_neg c3, k0_part1_eq_skeleton]; unfold k0_part1_skel
  simp only [semSignalWord, semWaitWord, Prog.lift, Prog.bind_op, Prog.bind_ret, Prog.pure_eq_ret]
  unfold swapPre
  iintro ⟨Hx, Ha, ⟨Hg, HcB, HcV, #Hlev, Hi, Hc, HO⟩, Hk⟩
  iapply (wp_sum m c t c1 M1 h1 f hf _ Q)
  isplitl [Hx]; · iexact Hx
  isplitl [Ha]; · iexact Ha
  iintro ⟨Hx, ⟨%f', %hf', Ha⟩⟩
  have hfull : f' = accFull m c := filled_all m c f' (by rw [ht] at hf'; exact hf')
  subst hfull
  simp only [wp_deviceId]
  simp only [dev1_peer (grid0.coords t) c2 c]
  unfold ghost invs owed₀
  icases Hg with ⟨⟨#HIb, #HIs, #HIv, #HIbP, #HIvP⟩, HatB, HatS, HatV, #HrBP, #HrVP, #HrS, #HrV, HtB, HtV, HtS⟩
  -- tell the peer that this landing buffer is free, and wait for the same word
  iapply (wp_tell m K c _ rfl fcom W) $$ [HO HtB Hc]
  · isplitr; · iexact HIbP
    isplitl [HO]; · iexact HO
    isplitl [HtB]; · iexact HtB
    isplitl [Hc]; · iexact Hc
    isplitr; · iexact HrV
    iexact HrBP
  iintro HO
  iapply (wp_take m K c 0 (fun P => wpE_semWait_eq 𝒱₀ (c : Thread nD τ) none Set.univ P) (tallyAt (recvCell (peer c)) () N) W) $$ [HcB HO HatB]
  · isplitr; · iexact HIb
    isplitl [HcB]; · iexact HcB
    isplitl [HO]; · iexact HO
    isplitr; · iapply (wait_bar c); iexact Hlev
    iexact HatB
  unfold pay
  iintro ⟨⟨%W₁, HO⟩, HatB, ⟨⟨%fn, HcP⟩, #HrVP'⟩⟩
  -- send the accumulator
  iapply (wp_push m K c _ (dev2_peer (grid0.coords t) c2 c) fn W₁) $$ [Ha HcP HO HtS HtV]
  · isplitr; · iexact HIs
    isplitr; · iexact HIvP
    isplitl [Ha]; · iexact Ha
    isplitl [HcP]; · iexact HcP
    isplitl [HO]; · iexact HO
    isplitl [HtS]; · iexact HtS
    isplitr; · iexact HrS
    isplitl [HtV]; · iexact HtV
    iexact HrVP
  iintro ⟨HcS, HO⟩
  -- wait until it has left, and until the peer's has arrived
  iapply (wp_take m K c 1 (fun P => (wpE_waitDma2_eq 𝒱₀ (c : Thread nD τ) none Set.univ P).trans
    (congrArg (fun n => waitSpec (c : Thread nD τ) Set.univ (.dma sendS.sem) n P) acc_credit)) 0 W₁) $$ [HcS HO HatS]
  · isplitr; · iexact HIs
    isplitl [HcS]; · iexact HcS
    isplitl [HO]; · iexact HO
    isplitr; · rw [MayWait_zero]; iempintro
    iexact HatS
  unfold pay
  iintro ⟨⟨%W₂, HO⟩, HatS, Ha⟩
  iapply (wp_take m K c 2 (fun P => (wpE_waitDma2_eq 𝒱₀ (c : Thread nD τ) none Set.univ P).trans
    (congrArg (fun n => waitSpec (c : Thread nD τ) Set.univ (.dma recvS.sem) n P) com_credit)) 0 W₂) $$ [HcV HO HatV]
  · isplitr; · iexact HIv
    isplitl [HcV]; · iexact HcV
    isplitl [HO]; · iexact HO
    isplitr; · rw [MayWait_zero]; iempintro
    iexact HatV
  unfold pay
  iintro ⟨⟨%W₃, HO⟩, HatV, Hc⟩
  -- the three cells close
  imod (Rounds.cell_close EX (sched m) (Set.mem_univ (K (c, 0))) (fun h => h) (R := 1) (duties_done m (barCell c))) $$ [HatB] with HzB
  · isplitr; · iexact HIb
    iexact HatB
  imod (Rounds.cell_close EX (sched m) (Set.mem_univ (K (c, 1))) (fun h => h) (R := 1) (duties_done m (sendCell c))) $$ [HatS] with HzS
  · isplitr; · iexact HIs
    iexact HatS
  imod (Rounds.cell_close EX (sched m) (Set.mem_univ (K (c, 2))) (fun h => h) (R := 1) (duties_done m (recvCell c))) $$ [HatV] with HzV
  · isplitr; · iexact HIv
    iexact HatV
  -- the reciprocal roots
  iapply (wp_roots c (accFull m c) (accFull m (peer c)) finv) $$ [Ha Hc Hi]
  · isplitl [Ha]; · iexact Ha
    isplitl [Hc]; · iexact Hc
    iexact Hi
  iintro ⟨Ha, Hc, Hi⟩
  rw [wp_ret]; imodintro
  iapply Hk
  isplitl [Hx]; · iexact Hx
  isplitr [HO]
  · unfold before₂
    isplitl [Hi]; · iexact Hi
    isplitl [Ha]; · iexists _; iexact Ha
    isplitl [Hc]; · iexists _; iexact Hc
    isplitl [HzS]; · iexact HzS
    isplitl [HzV] <;> iassumption
  iexists _; iexact HO

end Cert.KernelIdeal.RowNorm

end
-- ==== Proof.KernelIdeal.Obligation.lean ====
/-
The body's obligation at every grid point, from its three kinds of run.
-/
module

public import proofs.«01_k».proof.Proof.KernelIdeal.Exchange

@[expose] public section

noncomputable section

namespace Cert.KernelIdeal.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the staging buffers hold when the body starts -/

/-- Window 0's buffer holds the rows of `x`. -/
theorem found_x (c : Dev nD) (t : Fin cfg0.N) (d) : (dats m 0 c).before 0 t d = xblk m c t :=
  ((dats m 0 c).before_in_eq_fetched 0 rfl (fun _ => rfl) (fun _ _ _ => rfl) (fun t => by
    show xblk m c t = _
    unfold xblk Dat.blockOf iblk; rfl) t d).trans (by unfold xblk Dat.fetched Dat.blockOf iblk; rfl)
/-- Window 1's holds the weights, fetched once and kept. -/
theorem found_g (c : Dev nD) (t : Fin cfg0.N) (d) : (dats m 0 c).before 1 t d = gblk m c t :=
  ((dats m 0 c).before_in_eq_fetched 1 rfl (fun _ => rfl) (fun _ _ _ => rfl) (fun t => by
    show gblk m c t = _
    unfold gblk Dat.blockOf iblk; rfl) t d).trans (by unfold gblk Dat.fetched Dat.blockOf iblk; rfl)

/-! ## One point, at any staging memrefs -/

section Point
variable (t : Fin cfg0.N) (M1 : Memref sig .tc .vmem S1024x2048 .f32) (h1 : M1.IsWhole) (M2 : Memref sig .tc .vmem S2048 .f32) (h2 : M2.IsWhole)
    (M3 : Memref sig .tc .vmem S1024x2048 .f32) (h3 : M3.IsWhole)

/-- A point of the first half: the exchange's part moves one point on and the staged blocks stay. -/
theorem point_lo (c : Dev nD) (ht : t.val < 8) :
    iprop(held m c t.val ∗ (∃ W, owes (c : Thread nD τ) (owedAt c t.val) W) ∗ owns (c : Thread nD τ) M1 fullShare (xblk m c t))
      ⊢ wp frame (wpE (defs₀ (F := F)) 𝒱₀ c none) Set.univ (bodyOn (F := F) t M1 h1 M2 h2 M3 h3) fun _ =>
          iprop(held m c (t.val + 1) ∗ (∃ W, owes (c : Thread nD τ) (owedAt c (t.val + 1)) W) ∗ owns (c : Thread nD τ) M1 fullShare (xblk m c t)) := by
  rw [held_lo m c (by omega : t.val ≤ 7), owedAt_lo c (by omega : t.val ≤ 7)]
  unfold before₁ start
  by_cases h7 : t.val = 7
  · rw [held_hi m c (by omega : 8 ≤ t.val + 1), owedAt_hi c (by omega : 8 ≤ t.val + 1)]
    iintro ⟨⟨⟨⟨%K, Hg⟩, HcB, HcV, Hlev⟩, ⟨%f, %hf, Ha⟩, ⟨%fi, Hi⟩, ⟨%fc, Hc⟩⟩, ⟨%W, HO⟩, Hx⟩
    iapply (run_swap m t M1 h1 M2 h2 M3 h3 K c h7 _ f fi fc hf W)
    isplitl [Hx]; · iexact Hx
    isplitl [Ha]; · iexact Ha
    isplitr []
    · unfold swapPre
      isplitl [Hg]; · iexact Hg
      isplitl [HcB]; · iexact HcB
      isplitl [HcV]; · iexact HcV
      isplitl [Hlev]; · iexact Hlev
      isplitl [Hi]; · iexact Hi
      isplitl [Hc]; · iexact Hc
      iexact HO
    iintro ⟨Hx, Hb, HO⟩
    isplitl [Hb]; · iexact Hb
    isplitl [HO]; · iexact HO
    iexact Hx
  · rw [held_lo m c (by omega : t.val + 1 ≤ 7), owedAt_lo c (by omega : t.val + 1 ≤ 7)]
    unfold before₁ start
    iintro ⟨⟨Hs, ⟨%f, %hf, Ha⟩, Hi, Hc⟩, HO, Hx⟩
    iapply (run_sum m t M1 h1 M2 h2 M3 h3 c (by omega) _ f hf)
    isplitl [Hx]; · iexact Hx
    isplitl [Ha]; · iexact Ha
    iintro ⟨Hx, Ha⟩
    isplitl [Hs Ha Hi Hc]
    · isplitl [Hs]; · iexact Hs
      isplitl [Ha]; · iexact Ha
      isplitl [Hi]; · iexact Hi
      iexact Hc
    isplitl [HO]; · iexact HO
    iexact Hx

/-- A point of the second half: the result's rows are left in its buffer, the rest stays. -/
theorem point_hi (c : Dev nD) (ht : 8 ≤ t.val) (d : Vec F S1024x2048 .f32) :
    iprop(held m c t.val ∗ (∃ W, owes (c : Thread nD τ) (owedAt c t.val) W)
        ∗ owns (c : Thread nD τ) M1 fullShare (xblk m c t) ∗ owns (c : Thread nD τ) M2 fullShare (gblk m c t) ∗ owns (c : Thread nD τ) M3 fullShare d)
      ⊢ wp frame (wpE (defs₀ (F := F)) 𝒱₀ c none) Set.univ (bodyOn (F := F) t M1 h1 M2 h2 M3 h3) fun _ =>
          iprop(held m c (t.val + 1) ∗ (∃ W, owes (c : Thread nD τ) (owedAt c (t.val + 1)) W)
            ∗ owns (c : Thread nD τ) M1 fullShare (xblk m c t) ∗ owns (c : Thread nD τ) M2 fullShare (gblk m c t)
            ∗ owns (c : Thread nD τ) M3 fullShare (outTile m c t)) := by
  rw [held_hi m c ht, owedAt_hi c ht, held_hi m c (by omega : 8 ≤ t.val + 1), owedAt_hi c (by omega : 8 ≤ t.val + 1)]
  unfold before₂
  iintro ⟨⟨Hi, Hrest⟩, HO, Hx, Hg, Ho⟩
  iapply (run_scale m t M1 h1 M2 h2 M3 h3 c ht _ d)
  isplitl [Hx]; · iexact Hx
  isplitl [Hg]; · iexact Hg
  isplitl [Ho]; · iexact Ho
  isplitl [Hi]; · iexact Hi
  iintro ⟨Hx, Hg, Ho, Hi⟩
  isplitl [Hi Hrest]
  · isplitl [Hi]; · iexact Hi
    iexact Hrest
  isplitl [HO]; · iexact HO
  isplitl [Hx]; · iexact Hx
  isplitl [Hg]; · iexact Hg
  iexact Ho

end Point

/-! ## The obligation -/

/-- The body's row of the table, at the current staging memrefs. -/
theorem row_eq (t : Fin cfg0.N) : defs₀ (F := F) .tc cfg0.body (cfg0.bodyArgs t (cfg0.slots t)) = bodyAt0 t := by
  unfold defs₀; rw [Defs.onTc_tc]

/-- What the device owes before a point, with the record of its waits forgotten. -/
theorem owes_in (c : Dev nD) (n : Fin (cfg0.N + 1)) : (dats m 0 c).owesAt () n ⊢ (iprop(∃ W, owes (c : Thread nD τ) (owedAt c n.val) W) : sProp 𝕄) := by
  unfold Dat.owesAt Pipeline.owesWithin
  iintro ⟨%W, -, HO⟩
  iexists W; iexact HO
/-- Any record of waits will do after it. -/
theorem owes_out (c : Dev nD) (n : Fin (cfg0.N + 1)) : (iprop(∃ W, owes (c : Thread nD τ) (owedAt c n.val) W) : sProp 𝕄) ⊢ (dats m 0 c).owesAt () n := by
  unfold Dat.owesAt Pipeline.owesWithin
  iintro ⟨%W, HO⟩
  iexists W
  isplitr; · ipureintro; exact fun _ _ => Or.inl trivial
  iexact HO

/-- The library's obligation on device `c`. -/
theorem body_obligation (c : Dev nD) : BodyObligation (dats m 0 c) (defs₀ (F := F)) 𝒱₀ () Set.univ := fun t => by
  rw [bigSep_W0, bigSep_W0, row_eq]
  have e₀ : (dats m 0 c).Φ t.castSucc = held m c t.val := rfl
  have e₁ : (dats m 0 c).Φ t.succ = held m c (t.val + 1) := rfl
  rewrite [e₀, e₁]
  have hx := found_x m c t
  have hg := found_g m c t
  by_cases ht : t.val < 8
  · have i2 : cfg0.idle 2 (cfg0.grid.coords t) = true := (idle_iff t).mpr ht
    have f2 : (cfg0.win 2).flush t = false := Bool.eq_false_iff.mpr fun h => by have := (flush_iff t).mp h; omega
    rewrite [i2, f2]
    iintro ⟨HΦ, HO, ⟨%d0, H0⟩, ⟨%d1, H1⟩, H2⟩
    rw [hx, hg]
    ihave HO' := (owes_in m c t.castSucc) $$ HO
    iapply wp_wand $$ [HΦ HO' H0]
    · iapply (point_lo m t (st0_0 t) (hstage0_0 ((cfg0.slots t 0).cast nbuf0_0)) (st0_1 t) (hstage0_1 ((cfg0.slots t 1).cast nbuf0_1))
        (st0_2 t) (hstage0_2 ((cfg0.slots t 2).cast nbuf0_2)) c ht)
      isplitl [HΦ]; · iexact HΦ
      isplitl [HO']; · iexact HO'
      iexact H0
    iintro %_ ⟨HΦ, HO, H0⟩
    isplitl [HΦ]; · iexact HΦ
    isplitl [HO]; · iapply (owes_out m c t.succ); iexact HO
    isplitl [H0]; · iexact H0
    isplitl [H1]; · iexact H1
    iexact H2
  · have i2 : cfg0.idle 2 (cfg0.grid.coords t) = false := Bool.eq_false_iff.mpr fun h => ht ((idle_iff t).mp h)
    rewrite [i2]
    iintro ⟨HΦ, HO, ⟨%d0, H0⟩, ⟨%d1, H1⟩, ⟨%d2, H2⟩⟩
    rw [hx, hg]
    ihave HO' := (owes_in m c t.castSucc) $$ HO
    iapply wp_wand $$ [HΦ HO' H0 H1 H2]
    · iapply (point_hi m t (st0_0 t) (hstage0_0 ((cfg0.slots t 0).cast nbuf0_0)) (st0_1 t) (hstage0_1 ((cfg0.slots t 1).cast nbuf0_1))
        (st0_2 t) (hstage0_2 ((cfg0.slots t 2).cast nbuf0_2)) c (not_lt.mp ht) ((dats m 0 c).before 2 t d2))
      isplitl [HΦ]; · iexact HΦ
      isplitl [HO']; · iexact HO'
      isplitl [H0]; · iexact H0
      isplitl [H1]; · iexact H1
      iexact H2
    iintro %_ ⟨HΦ, HO, H0, H1, H2⟩
    isplitl [HΦ]; · iexact HΦ
    isplitl [HO]; · iapply (owes_out m c t.succ); iexact HO
    isplitl [H0]; · iexact H0
    isplitl [H1]; · iexact H1
    iexact H2

end Cert.KernelIdeal.RowNorm

end
-- ==== Proof.KernelIdeal.Run.lean ====
/-
The launch: the exchange's cells set up from the launch's semaphores, their tokens dealt to the devices that pay with
them, and the whole run of the four devices.
-/
module

public import proofs.«01_k».proof.Proof.KernelIdeal.Obligation
public import Idealize.ShloMosaic.Lib.Pipeline.CollectiveSegs

@[expose] public section

noncomputable section

namespace Cert.KernelIdeal.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore zero. -/
def s₀ : MemSt nD τ sig (Elt F) := ⟨m, fun _ => 0, ρ⟩

/-! ## The launch's semaphores -/

/-- The kernel's own semaphores as the launch counts them: send and receive. -/
abbrev osem : Fin 2 → SemLoc sig := fun | 0 => .dma sendS.sem | 1 => .dma recvS.sem
theorem ownSemFacts : Pipeline.OwnSemFacts cfg0.spec osem := by decide

theorem share_eq (c : Dev nD) (w : Fin cfg0.W) : (dats m 0 c).share w = fullShare := by unfold Dat.share; split <;> rfl

/-- The exchange's twelve cells. -/
abbrev cellP (p : Dev nD × Fin 3) : GSem nD τ sig := cell p.1 p.2
theorem cellP_injective : Function.Injective cellP := by
  rintro ⟨c, k⟩ ⟨c', k'⟩ h
  have hc : c = c' := congrArg (fun g : GSem nD τ sig => g.1.1) h
  have hk : k = k' := by
    have := congrArg (fun g : GSem nD τ sig => kind g.2) h
    exact (kind_sems k).symm.trans (this.trans (kind_sems k'))
  rw [hc, hk]
def cells : Finset (GSem nD τ sig) := Finset.univ.map ⟨cellP, cellP_injective⟩

/-- Each cell's one duty token, as minted. -/
abbrev tokP (p : Dev nD × Fin 3) : GSem nD τ sig × ℕ × Unit := (cellP p, 0, ())
theorem tokP_injective : Function.Injective tokP := fun _ _ h => cellP_injective (congrArg Prod.fst h)
def tokens : Finset (GSem nD τ sig × ℕ × Unit) := Finset.univ.map ⟨tokP, tokP_injective⟩

/-- The launch element: the staging cells' part and the exchange's. -/
def u₀ : UU := (initOf (Pipeline.cells cfgs cellOf_inj) (Pipeline.launchToks cfgs cellOf_inj), initOf cells tokens)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- What a device is dealt at launch: its cells' states, its positions and marks on them, and their tokens. -/
def G (c : Dev nD) : sProp 𝕄 :=
  iprop((bigSep Finset.univ fun k : Fin 3 => roundState EX (sched m) (cell c k) 0)
    ∗ (bigSep Finset.univ fun k : Fin 3 => iprop(atPos EX (cell c k) 0 ∅ 0 ∗ reached EX (cell c k) 0))
    ∗ bigSep Finset.univ fun k : Fin 3 => dutyTok EX (cell c k) 0 ())

/-- What it holds once all cells are set up. -/
def G' (c : Dev nD) : sProp 𝕄 := iprop(∃ K, ghost m K c)

/-- The launch element deals every device its part. -/
theorem fund : BI.own (EX (initOf cells tokens)) ⊢ (|==> bigSep Finset.univ (G m) : sProp 𝕄) := by
  have hX (Φ : GSem nD τ sig → sProp 𝕄) : bigSep cells Φ = bigSep Finset.univ fun c : Dev nD => bigSep Finset.univ fun k : Fin 3 => Φ (cell c k) := by
    unfold cells; rw [bigSep_map, bigSep_univ_prod]; rfl
  have hT : bigSep tokens (fun x => (dutyTok EX x.1 x.2.1 x.2.2 : sProp 𝕄))
      = bigSep Finset.univ fun c : Dev nD => bigSep Finset.univ fun k : Fin 3 => dutyTok EX (cell c k) 0 () := by
    unfold tokens; rw [bigSep_map, bigSep_univ_prod]; rfl
  iintro HX
  imod (Rounds.fund EX (sched m) cells tokens) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- The barrier's semaphore is the one that is not scoped. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (cell c k)))
          ∗ (bigSep Finset.univ fun k => iprop(atPos EX (cell c k) 0 ∅ 0 ∗ reached EX (cell c k) 0))
          ∗ bigSep Finset.univ fun k => dutyTok EX (cell c k) 0 ()) := by
  unfold G
  rw [ownSems_eq, unscopedSems_eq]
  iintro ⟨⟨HS, HV⟩, HB, Hst, Hat, Htok⟩
  imod (show iprop((bigSep Finset.univ fun k : Fin 3 => semVal (cell c k) 0) ∗ bigSep Finset.univ fun k : Fin 3 => roundState EX (sched m) (cell c k) 0)
      ⊢ (|={Set.univ}=> bigSep Finset.univ fun k => iprop(∃ κ : ℕ, cellInv EX (sched m) κ (cell c k)) : sProp 𝕄) from by
        rw [← bigSep_sep']
        exact (bigSep_mono fun k _ => (Rounds.body_intro EX (sched m) (cell c k)).trans inv_alloc).trans (bigSep_fupd _ _)) $$ [HS HV HB Hst] with Hinv
  · isplitr [Hst]
    · rw [bigSep_three]
      isplitl [HB]; · iexact HB
      isplitl [HS] <;> iassumption
    iexact Hst
  imodintro
  isplitl [Hinv]; · iexact Hinv
  isplitl [Hat]; · iexact Hat
  iexact Htok

/-- Every cell's invariant and mark, for all devices to use. -/
def records (K : Dev nD × Fin 3 → ℕ) : sProp 𝕄 :=
  iprop((bigSep Finset.univ fun p : Dev nD × Fin 3 => cellInv EX (sched m) (K p) (cellP p))
    ∗ bigSep Finset.univ fun p : Dev nD × Fin 3 => reached EX (cellP p) 0)

instance records_persistent (K : Dev nD × Fin 3 → ℕ) : BI.Persistent (records m K) := by unfold records; infer_instance

theorem inv_of (K : Dev nD × Fin 3 → ℕ) (p : Dev nD × Fin 3) :
    (bigSep Finset.univ fun p : Dev nD × Fin 3 => (cellInv EX (sched m) (K p) (cellP p) : sProp 𝕄)) ⊢ cellInv EX (sched m) (K p) (cellP p) :=
  bigSep_elim (Finset.mem_univ p)
omit [FloatOps F] in
theorem mark_of (p : Dev nD × Fin 3) :
    (bigSep Finset.univ fun p : Dev nD × Fin 3 => (reached EX (cellP p) 0 : sProp 𝕄)) ⊢ reached EX (cellP p) 0 :=
  bigSep_elim (Finset.mem_univ p)

/-- What only device `c` may hold: its positions, and the tokens of the duties it pays. -/
def alone (c : Dev nD) : sProp 𝕄 :=
  iprop((bigSep Finset.univ fun k : Fin 3 => atPos EX (cell c k) 0 ∅ 0)
    ∗ dutyTok EX (barCell (peer c)) 0 () ∗ dutyTok EX (sendCell c) 0 () ∗ dutyTok EX (recvCell (peer c)) 0 ())

theorem ghost_intro (K : Dev nD × Fin 3 → ℕ) (c : Dev nD) : iprop(records m K ∗ alone c) ⊢ G' m c := by
  unfold records alone G' ghost invs
  rw [bigSep_three]
  iintro ⟨⟨#HI, #HR⟩, ⟨HaB, HaS, HaV⟩, HtB, HtS, HtV⟩
  iexists K
  isplitr
  · isplitr; · iapply (inv_of m K (c, 0)); iexact HI
    isplitr; · iapply (inv_of m K (c, 1)); iexact HI
    isplitr; · iapply (inv_of m K (c, 2)); iexact HI
    isplitr; · iapply (inv_of m K (peer c, 0)); iexact HI
    iapply (inv_of m K (peer c, 2)); iexact HI
  isplitl [HaB]; · iexact HaB
  isplitl [HaS]; · iexact HaS
  isplitl [HaV]; · iexact HaV
  isplitr; · iapply (mark_of (F := F) (peer c, 0)); iexact HR
  isplitr; · iapply (mark_of (F := F) (peer c, 2)); iexact HR
  isplitr; · iapply (mark_of (F := F) (c, 1)); iexact HR
  isplitr; · iapply (mark_of (F := F) (c, 2)); iexact HR
  isplitl [HtB]; · iexact HtB
  isplitl [HtV]; · iexact HtV
  iexact HtS

omit [FloatOps F] in
/-- Barrier and receive tokens change hands between peers; send tokens stay. -/
theorem toks_swap : (bigSep Finset.univ fun c : Dev nD => bigSep Finset.univ fun k : Fin 3 => (dutyTok EX (cell c k) 0 () : sProp 𝕄))
    ⊢ bigSep Finset.univ fun c : Dev nD =>
        iprop(dutyTok EX (barCell (peer c)) 0 () ∗ dutyTok EX (sendCell c) 0 () ∗ dutyTok EX (recvCell (peer c)) 0 ()) := by
  simp only [bigSep_three]
  rw [bigSep_sep', bigSep_sep', bigSep_sep', bigSep_sep',
    bigSep_univ_equiv swap (fun c : Dev nD => (dutyTok EX (cell c 0) 0 () : sProp 𝕄)),
    bigSep_univ_equiv swap (fun c : Dev nD => (dutyTok EX (cell c 2) 0 () : sProp 𝕄))]
  exact .rfl

/-- From all devices' shares: the invariants named, then each device's own part. -/
theorem regroup :
    (bigSep Finset.univ fun c : Dev nD => iprop((bigSep Finset.univ fun k => iprop(∃ κ : ℕ, cellInv EX (sched m) κ (cell c k)))
          ∗ (bigSep Finset.univ fun k => iprop(atPos EX (cell c k) 0 ∅ 0 ∗ reached EX (cell c k) 0))
          ∗ bigSep Finset.univ fun k => dutyTok EX (cell c k) 0 ()) : sProp 𝕄)
      ⊢ bigSep Finset.univ (G' m) := by
  rw [bigSep_sep', bigSep_sep', ← bigSep_univ_prod (fun p : Dev nD × Fin 3 => iprop(∃ κ : ℕ, cellInv EX (sched m) κ (cellP p))),
    bigSep_congr (s := Finset.univ) (fun (c : Dev nD) _ => bigSep_sep' Finset.univ (fun k : Fin 3 => (atPos EX (cell c k) 0 ∅ 0 : sProp 𝕄)) (fun k => reached EX (cell c k) 0)),
    bigSep_sep', ← bigSep_univ_prod (fun p : Dev nD × Fin 3 => (reached EX (cellP p) 0 : sProp 𝕄))]
  iintro ⟨HI, ⟨Hat, #HR⟩, Htok⟩
  ihave HK := (BI.bigSep_exists_pi Finset.univ (fun (p : Dev nD × Fin 3) (κ : ℕ) => (cellInv EX (sched m) κ (cellP p) : sProp 𝕄))) $$ HI
  icases HK with ⟨%K, #HI⟩
  ihave Htk := (toks_swap (F := F)) $$ Htok
  have hall : iprop(records m K ∗ bigSep Finset.univ fun c : Dev nD => (alone c : sProp 𝕄)) ⊢ bigSep Finset.univ (G' m) :=
    (sep_mono_left (BI.bigSep_of_persistent Finset.univ (records m K))).trans (by rw [← bigSep_sep']; exact bigSep_mono fun c _ => ghost_intro m K c)
  have hown : iprop((bigSep Finset.univ fun c : Dev nD => bigSep Finset.univ fun k : Fin 3 => atPos EX (cell c k) 0 ∅ 0)
      ∗ bigSep Finset.univ fun c : Dev nD => iprop(dutyTok EX (barCell (peer c)) 0 () ∗ dutyTok EX (sendCell c) 0 () ∗ dutyTok EX (recvCell (peer c)) 0 ()))
      ⊢ bigSep Finset.univ fun c : Dev nD => (alone c : sProp 𝕄) := Entails.of_eq (by rw [← bigSep_sep']; rfl)
  iapply hall
  isplitr
  · unfold records
    isplitl; · iexact HI
    iexact HR
  · iapply hown
    isplitl [Hat]; · iexact Hat
    iexact Htk

/-- The launch's one step over all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## In and out of the pipeline -/

omit [FloatOps F] in
/-- The launch's credit for what the peer owes. -/
theorem creds (c : Dev nD) : (Pipeline.launchCred owed₀ c : sProp 𝕄) ⊢ iprop(cred (tallyAt (barCell c) () 1) ∗ cred (tallyAt (recvCell c) () N)) := by
  have e : (owed₀ : Dev nD → CellTallies nD τ sig Unit) = fun d => (fun d => tallyAt (recvCell (peer d)) () N) d + (fun d => tallyAt (barCell (peer d)) () 1) d := rfl
  rw [e, Pipeline.launchCred_add]
  iintro ⟨HV, HB⟩
  isplitl [HB]
  · iapply (Pipeline.launchCred_tallyAt (.reg barS) peer peer peer_peer peer_peer () 1 c); iexact HB
  · iapply (Pipeline.launchCred_tallyAt (.dma recvS.sem) peer peer peer_peer peer_peer () N c); iexact HV

omit [FloatOps F] in
theorem last_hi : 8 ≤ (Fin.last cfg0.N).val := le_of_le_of_eq (by decide : 8 ≤ 16) N_0.symm

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV]; · iexact HV
    iexact Hlev
  · iempintro

/-- Nothing is summed yet at the first point. -/
theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₁ m c 0 from held_lo m c (Nat.zero_le 7), scopedRest0_eq]
  unfold before₁
  iintro ⟨Hs, -, ⟨%f, Ha⟩, ⟨%g, Hi⟩, ⟨%h, Hc⟩⟩
  isplitl [Hs]; · iexact Hs
  isplitl [Ha]
  · iexists f
    isplitr; · ipureintro; exact fun p hp => absurd hp (by omega)
    rw [accAt_eq]; iexact Ha
  isplitl [Hi]
  · iexists g; rw [invAt_eq]; iexact Hi
  iexists h; rw [comAt_eq]; iexact Hc

/-- After the last point every semaphore and buffer is given back. -/
theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = before₂ m c from held_hi m c last_hi,
    scopedRest0_eq, ownSems_eq, unscopedSems_eq]
  unfold before₂
  iintro ⟨Hi, ⟨%f, Ha⟩, ⟨%h, Hc⟩, HzS, HzV, HzB⟩
  isplitl [HzB]; · iexact HzB
  isplitl [HzS HzV]
  · isplitl [HzS] <;> iassumption
  isplitl [Ha]; · iexists f; rw [← accAt_eq]; iexact Ha
  isplitl [Hi]; · iexists invFull m c; rw [← invAt_eq]; iexact Hi
  iexists h; rw [← comAt_eq]; iexact Hc

theorem waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> decide) _ (by
      show owedAt c t.val = owed₀ c ∨ owedAt c t.val = 0
      by_cases h : t.val ≤ 7
      · exact Or.inl (owedAt_lo c h)
      · exact Or.inr (owedAt_hi c (by omega)))

/-! ## The run -/

/-- What window `w`'s array holds at the end on device `c`. -/
def finalA (c : Dev nD) (w : Fin cfg0.W) : Buf (Elt F) ((cfg0.win w).arr.view.loc (c : Thread nD τ)) := (dats m 0 c).arrAt w cfg0.N

/-- Every device's arrays hold their final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero semaphores, every weakly fair execution of the four devices ends, with each device's
    arrays at their final contents and every semaphore at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => block_pos0 w) (harr := arr_whole0) (hstage := stage_whole0) (hshare := share_eq m)
    (hdistinct := winFacts0.arr_inj)
    (O₀ := owed₀) (howed₀ := fun c => owedAt_lo c (Nat.zero_le 7)) (howedN := fun c => owedAt_hi c last_hi)
    (L := L) (lv := lv) (hL := L_off) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows of `x` end as they were, -/
theorem finalA_x (c : Dev nD) : finalA m c (0 : Fin 3) = m (win0_0.arr.view.loc (c : Thread nD τ)) := (dats (F := F) m 0 c).arrAt_in (0 : Fin 3) rfl _
/-- and so do the weights. -/
theorem finalA_g (c : Dev nD) : finalA m c (1 : Fin 3) = m (win0_1.arr.view.loc (c : Thread nD τ)) := (dats (F := F) m 0 c).arrAt_in (1 : Fin 3) rfl _

/-- The kernel's frame: both arguments end unchanged and every semaphore at zero. -/
theorem frame_main : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run _ _ _).mono (fun r h => ⟨fun c => ⟨(h.1 c 0).trans (finalA_x m c), (h.1 c 1).trans (finalA_g m c)⟩, h.2⟩) (run_main m ρ)

end Cert.KernelIdeal.RowNorm

end
-- ==== Proof.Arith.lean ====
/-
The arithmetic of a row normalisation over the extended reals: the mean of the squares by a product and by a
quotient, its sign, and the two ways of dividing by its root.
-/
module

public import Idealize.ShloMosaic.Lib.Pointwise
public import Idealize.ShloMosaic.Lib.IdealHost

@[expose] public section

noncomputable section

namespace Cert.RowNorm

open Idealize.ShloMosaic

/-- The word `0x39800000` is one over 4096. -/
theorem word_inv : Ideal.ofBits .f32 0x39800000#32 = (((1 : ℝ) / 4096 : ℝ) : EReal) := by
  simp [Ideal.ofBits, Ideal.ieee, -EReal.coe_mul]; norm_num

/-- The word `0x45800000` is 4096. -/
theorem word_len : Ideal.ofBits .f32 0x45800000#32 = ((4096 : ℝ) : EReal) := by
  simp [Ideal.ofBits, Ideal.ieee, -EReal.coe_mul]; norm_num

/-- The word added to the mean is above zero. -/
theorem word_eps_pos : 0 < Ideal.ofBits .f32 0x3727C5AC#32 := by
  simp [Ideal.ofBits, Ideal.ieee, -EReal.coe_mul]

/-- Multiplying by the one word is dividing by the other, at the infinities too. -/
theorem mean_eq (s : EReal) : s * Ideal.ofBits .f32 0x39800000#32 = Ideal.div s (Ideal.ofBits .f32 0x45800000#32) := by
  rw [word_inv, word_len, Ideal.div_coe (by norm_num)]

/-- A square is never below zero. -/
theorem square_nonneg (a : EReal) : 0 ≤ a * a := by
  induction a with
  | bot => simp
  | top => simp
  | coe r => exact_mod_cast mul_self_nonneg r

/-- What is put under the root is above zero, whatever the entries. -/
theorem under_root_pos {n : ℕ} (f : Fin n → EReal) :
    0 < Ideal.div (∑ k, f k * f k) (Ideal.ofBits .f32 0x45800000#32) + Ideal.ofBits .f32 0x3727C5AC#32 := by
  have hs : (0 : EReal) ≤ ∑ k, f k * f k := Finset.sum_nonneg fun k _ => square_nonneg (f k)
  have hd : (0 : EReal) ≤ Ideal.div (∑ k, f k * f k) (Ideal.ofBits .f32 0x45800000#32) := by
    rw [word_len, Ideal.div_coe (by norm_num)]
    exact mul_nonneg hs (by exact_mod_cast (by norm_num : (0 : ℝ) ≤ 1 / 4096))
  exact lt_of_lt_of_le word_eps_pos (le_add_of_nonneg_left hd)

/-- Scaling by the reciprocal root and then by the weight is the weighted entry over the root. At an infinite mean both
    are a product with zero. -/
theorem scale_eq (x g v : EReal) (hv : 0 < v) : x * Ideal.rsqrt v * g = Ideal.div (g * x) (Ideal.sqrt v) := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg hr.not_gt, if_neg hr.not_gt, if_neg hr.ne', Ideal.div_coe hs, one_div, mul_comm,
      mul_assoc]

/-- Half `b` of a list of 4096 terms, summed. -/
def half (f : Fin 4096 → EReal) (b : Fin 2) : EReal := ∑ k : Fin 2048, f ⟨2048 * b.val + k.val, by omega⟩

/-- The two halves, in either order, make the whole sum. -/
theorem half_add (f : Fin 4096 → EReal) : ∀ b : Fin 2, half f b + half f (1 - b) = ∑ k, f k := by
  have h : half f 0 + half f 1 = ∑ k, f k := by
    rw [show (∑ k, f k) = _ from Fin.sum_univ_add (a := 2048) (b := 2048) f]
    congr 1 <;> exact Finset.sum_congr rfl fun k _ => congrArg f (Fin.ext (by simp))
  intro b
  match b with
  | 0 => exact h
  | 1 => exact (add_comm _ _).trans h

end Cert.RowNorm

end
-- ==== Proof.KernelIdeal.Value.lean ====
/-
What the kernel leaves in its result, entry by entry, over the extended reals.
-/
module

public import proofs.«01_k».proof.Proof.KernelIdeal.Run
public import Idealize.ShloMosaic.Lib.Pipeline.ValueKit.Point

@[expose] public section

noncomputable section

namespace Cert.KernelIdeal.RowNorm

open Cert.KernelIdeal Cert.KernelIdeal.Gen

open Idealize.ShloMosaic Idealize.ShloMosaic.TcCoe Idealize.SL.Sem
open Idealize.ShloMosaic.Pipeline (Dat)

variable {F : FTy → Type} [FloatOps F]

/-! ## Which rows each window's block holds -/

/-- The tiles of `x` are read in order, twice. -/
theorem index_x : ∀ t : Fin cfg0.N, win0_0.index t = ![t.val % 8, 0] :=
  (by decide +kernel : ∀ t : Fin grid0.N, win0_0.index t = ![t.val % 8, 0])
/-- The weights are one block. -/
theorem index_g : ∀ t : Fin cfg0.N, win0_1.index t = ![0] := (by decide +kernel : ∀ t : Fin grid0.N, win0_1.index t = ![0])
/-- The second pass writes the result's tiles in order. -/
theorem index_o : ∀ t : Fin cfg0.N, win0_2.index t = ![t.val - 8, 0] :=
  (by decide +kernel : ∀ t : Fin grid0.N, win0_2.index t = ![t.val - 8, 0])
/-- Together those tiles are the whole result. -/
theorem covers_o : win0_2.Covers := by decide +kernel

section Blocks
variable (m : (ℓ : Loc nD τ sig) → Buf (Elt F) ℓ) (c : Dev nD)

/-- An entry of a tile of `x`, in the array. -/
theorem xblk_at (t : Fin cfg0.N) (p : S1024x2048.Idx) (q : S8192x2048.Idx) (h0 : (q 0).val = 1024 * (t.val % 8) + (p 0).val)
    (h1 : (q 1).val = (p 1).val) : xblk m c t p = m ((c : Thread nD τ).loc main_arg0) q := by
  unfold xblk; blk_ext! [iblk, V, index_x t]

/-- The block of weights is the weights. -/
theorem gblk_all (t : Fin cfg0.N) : gblk m c t = m ((c : Thread nD τ).loc main_arg1) := by
  unfold gblk; blk_ext! [iblk, V, index_g t]

/-- The result is `G` when every tile of the second pass is `G` at its rows. -/
theorem result_of_tiles (G : Buf (Elt F) ((c : Thread nD τ).loc main_v1))
    (h : ∀ t : Fin cfg0.N, 8 ≤ t.val → ∀ (y : S1024x2048.Idx) (q : S8192x2048.Idx), (q 0).val = 1024 * (t.val - 8) + (y 0).val →
      (q 1).val = (y 1).val → outTile m c t y = G q) : finalA m c (2 : Fin 3) = G := by
  refine (dats m 0 c).arrAt_eq_of_covers (2 : Fin 3) _ covers_o fun t hf y => ?_
  refine h t ((flush_iff t).mp hf) _ _ ?_ ?_
  · blk_simp [index_o t]
    exact congrArg (· + (y 0).val) (Nat.mul_comm _ _)
  · blk_simp [index_o t]

end Blocks

/-! ## The entries -/

variable (m : (ℓ : Loc nD τ sig) → Buf (Elt Ideal) ℓ) (c : Dev nD)

/-- The sum of the squares of one row of the device's part of `x`. -/
def squares (r : Fin 8192) : EReal :=
  ∑ k : Fin 2048, (show FVec Ideal S8192x2048 .f32 from m ((c : Thread nD τ).loc main_arg0)) (ix2 r k)
    * (show FVec Ideal S8192x2048 .f32 from m ((c : Thread nD τ).loc main_arg0)) (ix2 r k)

/-- The first pass leaves those sums. -/
theorem accFull_at (p : S8192x1.Idx) : (accFull m c p : EReal) = squares m c (p 0) := by
  have hp : (p 0).val < 8192 := (p 0).isLt
  unfold accFull squares
  pointwise [k0_pay1]
  refine Finset.sum_congr rfl fun k _ => ?_
  have e : xblk m c (tileOf (p 0).val) (ix2 ⟨(p 0).val % 1024, Nat.mod_lt _ (by decide)⟩ k) = m ((c : Thread nD τ).loc main_arg0) (ix2 (p 0) k) :=
    xblk_at m c _ _ _ (by show (p 0).val = 1024 * ((p 0).val / 1024 % 16 % 8) + (p 0).val % 1024; omega) rfl
  exact congrArg (fun a : EReal => a * a) e

/-- The reciprocal root of a row's mean square, from the device's own sum and its peer's. -/
def scale (r : Fin 8192) : EReal :=
  Ideal.rsqrt ((squares m c r + squares m (peer c) r) * Ideal.ofBits .f32 0x39800000#32 + Ideal.ofBits .f32 0x3727C5AC#32)

/-- That is what the exchange leaves, row by row. -/
theorem invFull_at (p : S8192x1.Idx) : (invFull m c p : EReal) = scale m c (p 0) := by
  unfold invFull scale
  rw [← accFull_at m c p, ← accFull_at m (peer c) p]
  pointwise [k0_pay2, k0_pay4]

/-- The kernel's result on one device: each entry of `x`, times its row's scale, times its column's weight. -/
def result : FVec Ideal S8192x2048 .f32 := fun q =>
  (show FVec Ideal S8192x2048 .f32 from m ((c : Thread nD τ).loc main_arg0)) q * scale m c (q 0)
    * (show FVec Ideal S2048 .f32 from m ((c : Thread nD τ).loc main_arg1)) (ix1 (q 1))

theorem finalA_result : finalA m c (2 : Fin 3) = result m c := by
  refine result_of_tiles m c (result m c) fun t ht y q h0 h1 => ?_
  have hq : (q 0).val < 8192 := (q 0).isLt
  have hy : (y 0).val < 1024 := (y 0).isLt
  have hN : t.val < 16 := lt_of_lt_of_eq t.isLt N_0
  have ex : xblk m c t y = m ((c : Thread nD τ).loc main_arg0) q := xblk_at m c t y q (by omega) h1
  have eg : gblk m c t (ix1 (y 1)) = m ((c : Thread nD τ).loc main_arg1) (ix1 (q 1)) :=
    (congrFun (gblk_all m c t) _).trans (congrArg _ (congrArg ix1 (Fin.ext h1.symm)))
  have ei : (invTile m c t (ix2 (y 0) 0) : EReal) = scale m c (q 0) := by
    unfold invTile
    rw [invFull_at]
    exact congrArg (scale m c) (Fin.ext (by show (1024 * (t.val - 8) + (y 0).val) % 8192 = (q 0).val; omega))
  unfold outTile result
  pointwise [k0_pay3]
  rw [ei, ex, eg]

/-- The kernel's run, read: the result holds those entries on every device, and the arguments are unchanged. -/
theorem run_result (ρ : Dev nD → PrngReg) : θ_run defs (onTc (τ := τ) (main (F := Ideal))) ⟨m, fun _ => 0, ρ⟩ (fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c 2).trans (finalA_result m c), (h.1 c 0).trans (finalA_x m c), (h.1 c 1).trans (finalA_g m c)⟩)
    (run_main m ρ)

end Cert.KernelIdeal.RowNorm

end
-- ==== Proof.Algebraic.lean ====
/-
The kernel on four devices and the reference on one compute the same array over the extended reals: the rows' mean
squares are the two column halves' sums put together, and scaling by a reciprocal root is dividing by the root.
-/
module

public import proofs.«01_k».proof.Proof.Arith
public import proofs.«01_k».proof.Proof.KernelIdeal.Value
public import proofs.«01_k».proof.Proof.Gen.ReferenceIdeal.Run
public import Idealize.ShloMosaic.Lib.LayoutAt
public import Idealize.ShloMosaic.Lib.Quiescent

@[expose] public section

noncomputable section

namespace Cert.RowNorm

open Idealize.ShloMosaic Idealize.ShloMosaic.TcCoe Idealize.SL.Sem
open Cert.KernelIdeal.RowNorm (squares scale result peer)

/-- The whole array of entries. -/
abbrev Whole : Shape := ⟨2, ![16384, 4096]⟩

/-- The normalised array: each entry weighted, over the root of its row's mean square and a small constant. -/
def normed (x : FVec Ideal Whole .f32) (g : FVec Ideal ⟨1, ![4096]⟩ .f32) : FVec Ideal Whole .f32 := fun p =>
  Ideal.div ((g (ix1 (p 1)) : EReal) * x p)
    (Ideal.sqrt (Ideal.div (∑ k : Fin 4096, (x (ix2 (p 0) k) : EReal) * x (ix2 (p 0) k)) (Ideal.ofBits .f32 0x45800000#32)
      + Ideal.ofBits .f32 0x3727C5AC#32))

/-! ## The reference -/

section Reference
open Cert.ReferenceIdeal Cert.ReferenceIdeal.Gen
variable (m : (ℓ : Loc nD τ sig) → Buf (Elt Ideal) ℓ) (ρ : Dev nD → PrngReg)

/-- The reference's run: the result is the normalised array, and the arguments are unchanged. -/
theorem run_reference : θ_run defs (onTc (τ := τ) (main (F := Ideal))) ⟨m, fun _ => 0, ρ⟩ (fun r => ∀ c : Dev nD,
      r.2.mem ((c : Thread nD τ).loc main_v12) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) := by
  refine (θ_run _ _ _).mono (fun r h c => ⟨(h c).1.trans ?_, (h c).2⟩) (Value.run m ρ)
  funext p
  unfold normed
  pointwise []

/-- The reference's frame: its arguments end unchanged; it has no semaphores. -/
theorem frame_reference : θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run _ _ _).mono (fun r h => ⟨fun c => (h c).2, sem_eq_zero_of_no_sems rfl r.2⟩) (run_reference m ρ)

end Reference

/-! ## The two together -/

open Cert.KernelIdeal

/-- The column half a device holds. -/
def side (c : Dev nD) : Fin 2 := ⟨c.val % 2, Nat.mod_lt _ (by decide)⟩

/-- A row of a device's part, in the whole array. -/
def rowOf (c : Dev nD) (r : Fin 8192) : Fin 16384 := ⟨8192 * (c.val / 2) + r.val, by have h : c.val < 4 := c.isLt; omega⟩

/-- Peers hold the two halves of the same rows. -/
theorem side_peer : ∀ c : Dev nD, side (peer c) = 1 - side c := by decide
theorem half_row_peer : ∀ c : Dev nD, (peer c).val / 2 = c.val / 2 := by decide
theorem rowOf_peer (c : Dev nD) (r : Fin 8192) : rowOf (peer c) r = rowOf c r := Fin.ext (by unfold rowOf; simp only [half_row_peer])

/-- A column of a device's part, in the whole array. -/
def colOf (c : Dev nD) (k : Fin 2048) : Fin 4096 := ⟨2048 * (side c).val + k.val, by have := (side c).isLt; omega⟩

/-- Where a device's block of the array lies on the mesh. -/
theorem block_rows : ∀ c : Dev nD, Layout.meshLin [2, 2] c.val [0] = c.val / 2 := by decide
theorem block_cols : ∀ c : Dev nD, Layout.meshLin [2, 2] c.val [1] = c.val % 2 := by decide

/-- An entry of a device's block is the whole array's, at the block's rows and columns. -/
theorem block_at {α : Type} (v : Whole.Idx → α) (c : Dev nD) (q : (⟨2, ![8192, 2048]⟩ : Shape).Idx) :
    (Layout.blockN ⟨2, ![8192, 2048]⟩ ⟨2, ![16384, 4096]⟩ (Layout.meshBlock [2, 2] ![[0], [1]] c) v) q
      = v (ix2 (rowOf c (q 0)) (colOf c (q 1))) := by
  refine congrArg v (funext fun b => Fin.ext ?_)
  rw [Layout.TilesN.idx_val]
  match b with
  | ⟨0, _⟩ =>
    show Layout.meshLin [2, 2] c.val [0] * 8192 + (q 0).val = 8192 * (c.val / 2) + (q 0).val
    rw [block_rows, Nat.mul_comm]
  | ⟨1, _⟩ =>
    show Layout.meshLin [2, 2] c.val [1] * 2048 + (q 1).val = 2048 * (c.val % 2) + (q 1).val
    rw [block_cols, Nat.mul_comm]

/-- A weight of a device's block is the whole list's, at the block's columns. -/
theorem weight_at {α : Type} (v : (⟨1, ![4096]⟩ : Shape).Idx → α) (c : Dev nD) (k : Fin 2048) :
    (Layout.blockN ⟨1, ![2048]⟩ ⟨1, ![4096]⟩ (Layout.meshBlock [2, 2] ![[1]] c) v) (ix1 k) = v (ix1 (colOf c k)) := by
  refine congrArg v (funext fun b => Fin.ext ?_)
  rw [Layout.TilesN.idx_val]
  match b with
  | ⟨0, _⟩ =>
    show Layout.meshLin [2, 2] c.val [1] * 2048 + k.val = 2048 * (c.val % 2) + k.val
    rw [block_cols, Nat.mul_comm]

section Meet
variable (m : (ℓ : Loc nD τ sig) → Buf (Elt Ideal) ℓ) (x : FVec Ideal Whole .f32) (g : FVec Ideal ⟨1, ![4096]⟩ .f32)
  (hx : ∀ c : Dev nD, m ((c : Thread nD τ).loc main_arg0)
    = Layout.blockN ⟨2, ![8192, 2048]⟩ ⟨2, ![16384, 4096]⟩ (Layout.meshBlock [2, 2] ![[0], [1]] c) x)
  (hg : ∀ c : Dev nD, m ((c : Thread nD τ).loc main_arg1) = Layout.blockN ⟨1, ![2048]⟩ ⟨1, ![4096]⟩ (Layout.meshBlock [2, 2] ![[1]] c) g)
include hx

/-- A device's sum for a row is its half of the whole row's. -/
theorem squares_half (c : Dev nD) (r : Fin 8192) :
    squares m c r = half (fun k => (x (ix2 (rowOf c r) k) : EReal) * x (ix2 (rowOf c r) k)) (side c) := by
  unfold squares half
  refine Finset.sum_congr rfl fun k _ => ?_
  exact congrArg (fun a : EReal => a * a) ((congrFun (hx c) (ix2 r k)).trans (block_at x c (ix2 r k)))

/-- So the two peers' sums make the whole row's. -/
theorem squares_add (c : Dev nD) (r : Fin 8192) :
    squares m c r + squares m (peer c) r = ∑ k : Fin 4096, (x (ix2 (rowOf c r) k) : EReal) * x (ix2 (rowOf c r) k) := by
  rw [squares_half m x hx c, squares_half m x hx (peer c), rowOf_peer, side_peer, half_add]

/-- A device's scale for a row is the reciprocal root for the whole row. -/
theorem scale_whole (c : Dev nD) (r : Fin 8192) :
    scale m c r = Ideal.rsqrt (Ideal.div (∑ k : Fin 4096, (x (ix2 (rowOf c r) k) : EReal) * x (ix2 (rowOf c r) k))
      (Ideal.ofBits .f32 0x45800000#32) + Ideal.ofBits .f32 0x3727C5AC#32) := by
  unfold scale
  rw [squares_add m x hx c r, mean_eq]

include hg

/-- Every device's result is its block of the normalised array. -/
theorem result_block (c : Dev nD) :
    result m c = Layout.blockN ⟨2, ![8192, 2048]⟩ ⟨2, ![16384, 4096]⟩ (Layout.meshBlock [2, 2] ![[0], [1]] c) (normed x g) := by
  funext q
  have ex := (congrFun (hx c) q).trans (block_at x c q)
  have eg := (congrFun (hg c) (ix1 (q 1))).trans (weight_at g c (q 1))
  have es := scale_whole m x hx c (q 0)
  refine Eq.trans ?_ (block_at (normed x g) c q).symm
  exact (congrArg₂ (fun a b : EReal => a * b) (congrArg₂ (fun a b : EReal => a * b) ex es) eg).trans
    (scale_eq _ _ _ (under_root_pos fun k => x (ix2 (rowOf c (q 0)) k)))

end Meet

end Cert.RowNorm

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Algebraic

@[expose] public section

noncomputable section

namespace Cert.Proof

open Idealize.ShloMosaic Idealize.SL.Sem

/-- The kernel over machine words runs, leaves its arguments unchanged and every semaphore at zero. -/
theorem frame_kernel : Cert.quiescent_Kernel (hKernel := Cert.Kernel.Gen.facts) := fun m g _ => Cert.Kernel.RowNorm.frame_main m g

/-- So does the kernel over the extended reals, -/
theorem frame_kernelIdeal : Cert.quiescent_KernelIdeal (hKernelIdeal := Cert.KernelIdeal.Gen.facts) :=
  fun m g _ => Cert.KernelIdeal.RowNorm.frame_main m g

/-- and so does the reference. -/
theorem frame_reference : Cert.quiescent_ReferenceIdeal (hReferenceIdeal := Cert.ReferenceIdeal.Gen.facts) :=
  fun m g _ => Cert.RowNorm.frame_reference m g

/-- Over the extended reals the devices' results are the blocks of the reference's. -/
theorem agree : Cert.algebraic_KernelIdeal_ReferenceIdeal (hKernelIdeal := Cert.KernelIdeal.Gen.facts)
    (hReferenceIdeal := Cert.ReferenceIdeal.Gen.facts) := fun m g m' g' _ h =>
  ⟨_, (θ_run _ _ _).mono (fun _ hr c => ⟨(hr c).1.trans (Cert.RowNorm.result_block m _ _ (fun c => (h c).1) (fun c => (h c).2) c), (hr c).2⟩)
      (Cert.KernelIdeal.RowNorm.run_result m g),
    (θ_run _ _ _).mono (fun _ hr => hr 0) (Cert.RowNorm.run_reference m' g')⟩

theorem claim : Cert.Claim :=
  ⟨Cert.Kernel.Gen.facts, Cert.KernelIdeal.Gen.facts, Cert.ReferenceIdeal.Gen.facts,
    frame_kernel, frame_kernelIdeal, frame_reference, trivial, agree⟩

end Cert.Proof

end
